-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![4, 8192, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 2048]⟩ ⟨2, ![8192, 2048]⟩ (Layout.meshBlock [2, 2, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S2048 : Shape := ⟨1, ![2048]⟩
abbrev S2048x2048 : Shape := ⟨2, ![2048, 2048]⟩
abbrev S3x512x2048 : Shape := ⟨3, ![3, 512, 2048]⟩
abbrev S4x512x2048 : Shape := ⟨3, ![4, 512, 2048]⟩
abbrev S3x8 : Shape := ⟨2, ![3, 8]⟩
abbrev S4 : Shape := ⟨1, ![4]⟩
abbrev S1 : Shape := ⟨1, ![1]⟩
abbrev S_ : Shape := ⟨0, ![]⟩
abbrev S512x2048 : Shape := ⟨2, ![512, 2048]⟩
abbrev S1x512x2048 : Shape := ⟨3, ![1, 512, 2048]⟩
abbrev S64x2048 : Shape := ⟨2, ![64, 2048]⟩
abbrev S1x64x2048 : Shape := ⟨3, ![1, 64, 2048]⟩
abbrev S1x1 : Shape := ⟨2, ![1, 1]⟩
abbrev S1x2048 : Shape := ⟨2, ![1, 2048]⟩
abbrev S64 : Shape := ⟨1, ![64]⟩
abbrev S64x1 : Shape := ⟨2, ![64, 1]⟩

abbrev nBuf : Space → Nat
  | .hbm => 3
  | .vmem => 5
  | .smem => 0
  | _ => 0

abbrev bufTy : (tb : Table) → Fin (tcTables nBuf tb) → BufTy
  | .hbm, ⟨0, _⟩ => ⟨S1x8192x2048, .f32⟩
  | .hbm, ⟨1, _⟩ => ⟨S2048, .f32⟩
  | .hbm, ⟨2, _⟩ => ⟨S2048x2048, .f32⟩
  | .local _ .vmem, ⟨0, _⟩ => ⟨S2048, .f32⟩
  | .local _ .vmem, ⟨1, _⟩ => ⟨S2048x2048, .f32⟩
  | .local _ .vmem, ⟨2, _⟩ => ⟨S3x512x2048, .bf16⟩
  | .local _ .vmem, ⟨3, _⟩ => ⟨S3x512x2048, .bf16⟩
  | .local _ .vmem, ⟨4, _⟩ => ⟨S4x512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => false
  | ⟨1, _⟩ => true
  | _ => false

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  (ofTc nBuf bufTy 2 102 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) (c1_i32_28 : BitVec 32) : Fin 3 → Nat :=
  let c0_i32_49 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v50 : BitVec 32 := Scalar.addi v8 c1_i32_28
  let c4_i32_29 : BitVec 32 := 4#32
  let c0_i32_30 : BitVec 32 := 0#32
  let v51 : BitVec 1 := Scalar.cmpi .eq c4_i32_29 c0_i32_30
  let c1_i32_31 : BitVec 32 := 1#32
  let v52 : BitVec 32 := Scalar.select v51 c1_i32_31 c4_i32_29
  let v53 : BitVec 32 := Scalar.remsi v50 v52
  let c0_i32_33 : BitVec 32 := 0#32
  let v55 : BitVec 1 := Scalar.cmpi .slt v53 c0_i32_33
  let c0_i32_34 : BitVec 32 := 0#32
  let v56 : BitVec 1 := Scalar.cmpi .slt v52 c0_i32_34
  let v57 : BitVec 1 := Scalar.xori v55 v56
  let c0_i32_32 : BitVec 32 := 0#32
  let v54 : BitVec 1 := Scalar.cmpi .ne v53 c0_i32_32
  let v58 : BitVec 1 := Scalar.andi v57 v54
  let v59 : BitVec 32 := Scalar.addi v53 v52
  let v60 : BitVec 32 := Scalar.select v58 v59 v53
  let c2048_i32 : BitVec 32 := 2048#32
  let v83 : BitVec 32 := Scalar.muli v60 c2048_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v84 : BitVec 32 := Scalar.muli v10 c512_i32
  let v85 : BitVec 32 := Scalar.addi v83 v84
  let c0_i32_53 : BitVec 32 := 0#32
  ![0, v85.toNat, 0]
def k0_off2 (d0 : Dev nD) : Fin 3 → Nat :=
  let c0_i32_69 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2048_i32_67 : BitVec 32 := 2048#32
  let v107 : BitVec 32 := Scalar.muli v8 c2048_i32_67
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32_68 : BitVec 32 := 512#32
  let v108 : BitVec 32 := Scalar.muli v10 c512_i32_68
  let v109 : BitVec 32 := Scalar.addi v107 v108
  let c0_i32_72 : BitVec 32 := 0#32
  ![0, v109.toNat, 0]
def k0_dev1 (d0 : Dev nD) : Nat :=
  let c0_i32_75 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_74 : BitVec 32 := 8#32
  let v116 : BitVec 32 := Scalar.muli v2 c8_i32_74
  let v117 : BitVec 32 := Scalar.addi c0_i32_75 v116
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_76 : BitVec 32 := 4#32
  let v118 : BitVec 32 := Scalar.muli v5 c4_i32_76
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_77 : BitVec 32 := 1#32
  let v120 : BitVec 32 := Scalar.muli v21 c1_i32_77
  let v121 : BitVec 32 := Scalar.addi v119 v120
  v121.toNat
def k0_dev2 (d0 : Dev nD) : Nat :=
  let c0_i32_80 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_79 : BitVec 32 := 8#32
  let v122 : BitVec 32 := Scalar.muli v2 c8_i32_79
  let v123 : BitVec 32 := Scalar.addi c0_i32_80 v122
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_81 : BitVec 32 := 4#32
  let v124 : BitVec 32 := Scalar.muli v5 c4_i32_81
  let v125 : BitVec 32 := Scalar.addi v123 v124
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v22 : BitVec 32 := Scalar.addi v8 c2_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_82 : BitVec 32 := 1#32
  let v126 : BitVec 32 := Scalar.muli v32 c1_i32_82
  let v127 : BitVec 32 := Scalar.addi v125 v126
  v127.toNat
def k0_dev3 (d0 : Dev nD) : Nat :=
  let c0_i32_85 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_84 : BitVec 32 := 8#32
  let v128 : BitVec 32 := Scalar.muli v2 c8_i32_84
  let v129 : BitVec 32 := Scalar.addi c0_i32_85 v128
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_86 : BitVec 32 := 4#32
  let v130 : BitVec 32 := Scalar.muli v5 c4_i32_86
  let v131 : BitVec 32 := Scalar.addi v129 v130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v33 : BitVec 32 := Scalar.addi v8 c3_i32
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c1_i32_87 : BitVec 32 := 1#32
  let v132 : BitVec 32 := Scalar.muli v43 c1_i32_87
  let v133 : BitVec 32 := Scalar.addi v131 v132
  v133.toNat
def k0_dev4 (d0 : Dev nD) : Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_22 : BitVec 32 := 1#32
  let v44 : BitVec 32 := Scalar.xori v2 c1_i32_22
  let c8_i32_89 : BitVec 32 := 8#32
  let v134 : BitVec 32 := Scalar.muli v44 c8_i32_89
  let v135 : BitVec 32 := Scalar.addi c0_i32_90 v134
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_23 : BitVec 32 := 0#32
  let v45 : BitVec 32 := Scalar.xori v5 c0_i32_23
  let c4_i32_91 : BitVec 32 := 4#32
  let v136 : BitVec 32 := Scalar.muli v45 c4_i32_91
  let v137 : BitVec 32 := Scalar.addi v135 v136
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v138 : BitVec 32 := Scalar.muli v8 c1_i32_92
  let v139 : BitVec 32 := Scalar.addi v137 v138
  v139.toNat
def k0_dev5 (d0 : Dev nD) : Nat :=
  let c0_i32_95 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_24 : BitVec 32 := 0#32
  let v46 : BitVec 32 := Scalar.xori v2 c0_i32_24
  let c8_i32_94 : BitVec 32 := 8#32
  let v140 : BitVec 32 := Scalar.muli v46 c8_i32_94
  let v141 : BitVec 32 := Scalar.addi c0_i32_95 v140
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_25 : BitVec 32 := 1#32
  let v47 : BitVec 32 := Scalar.xori v5 c1_i32_25
  let c4_i32_96 : BitVec 32 := 4#32
  let v142 : BitVec 32 := Scalar.muli v47 c4_i32_96
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97 : BitVec 32 := 1#32
  let v144 : BitVec 32 := Scalar.muli v8 c1_i32_97
  let v145 : BitVec 32 := Scalar.addi v143 v144
  v145.toNat
def k0_dev6 (d0 : Dev nD) : Nat :=
  let c0_i32_100 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_26 : BitVec 32 := 1#32
  let v48 : BitVec 32 := Scalar.xori v2 c1_i32_26
  let c8_i32_99 : BitVec 32 := 8#32
  let v146 : BitVec 32 := Scalar.muli v48 c8_i32_99
  let v147 : BitVec 32 := Scalar.addi c0_i32_100 v146
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_27 : BitVec 32 := 1#32
  let v49 : BitVec 32 := Scalar.xori v5 c1_i32_27
  let c4_i32_101 : BitVec 32 := 4#32
  let v148 : BitVec 32 := Scalar.muli v49 c4_i32_101
  let v149 : BitVec 32 := Scalar.addi v147 v148
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_102 : BitVec 32 := 1#32
  let v150 : BitVec 32 := Scalar.muli v8 c1_i32_102
  let v151 : BitVec 32 := Scalar.addi v149 v150
  v151.toNat
def k0_dev7 (d0 : Dev nD) : Nat :=
  let c0_i32_140 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_139 : BitVec 32 := 8#32
  let v190 : BitVec 32 := Scalar.muli v2 c8_i32_139
  let v191 : BitVec 32 := Scalar.addi c0_i32_140 v190
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_141 : BitVec 32 := 4#32
  let v192 : BitVec 32 := Scalar.muli v5 c4_i32_141
  let v193 : BitVec 32 := Scalar.addi v191 v192
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_142 : BitVec 32 := 1#32
  let v194 : BitVec 32 := Scalar.muli v21 c1_i32_142
  let v195 : BitVec 32 := Scalar.addi v193 v194
  v195.toNat
def k0_dev8 (d0 : Dev nD) : Nat :=
  let c0_i32_154 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_153 : BitVec 32 := 8#32
  let v204 : BitVec 32 := Scalar.muli v2 c8_i32_153
  let v205 : BitVec 32 := Scalar.addi c0_i32_154 v204
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_155 : BitVec 32 := 4#32
  let v206 : BitVec 32 := Scalar.muli v5 c4_i32_155
  let v207 : BitVec 32 := Scalar.addi v205 v206
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v22 : BitVec 32 := Scalar.addi v8 c2_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_156 : BitVec 32 := 1#32
  let v208 : BitVec 32 := Scalar.muli v32 c1_i32_156
  let v209 : BitVec 32 := Scalar.addi v207 v208
  v209.toNat
def k0_dev9 (d0 : Dev nD) : Nat :=
  let c0_i32_168 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_167 : BitVec 32 := 8#32
  let v218 : BitVec 32 := Scalar.muli v2 c8_i32_167
  let v219 : BitVec 32 := Scalar.addi c0_i32_168 v218
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_169 : BitVec 32 := 4#32
  let v220 : BitVec 32 := Scalar.muli v5 c4_i32_169
  let v221 : BitVec 32 := Scalar.addi v219 v220
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v33 : BitVec 32 := Scalar.addi v8 c3_i32
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c1_i32_170 : BitVec 32 := 1#32
  let v222 : BitVec 32 := Scalar.muli v43 c1_i32_170
  let v223 : BitVec 32 := Scalar.addi v221 v222
  v223.toNat
def k0_dev10 (d0 : Dev nD) : Nat :=
  let c0_i32_269 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_268 : BitVec 32 := 8#32
  let v304 : BitVec 32 := Scalar.muli v2 c8_i32_268
  let v305 : BitVec 32 := Scalar.addi c0_i32_269 v304
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_270 : BitVec 32 := 4#32
  let v306 : BitVec 32 := Scalar.muli v5 c4_i32_270
  let v307 : BitVec 32 := Scalar.addi v305 v306
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_271 : BitVec 32 := 1#32
  let v308 : BitVec 32 := Scalar.muli v21 c1_i32_271
  let v309 : BitVec 32 := Scalar.addi v307 v308
  v309.toNat
def k0_dev11 (d0 : Dev nD) : Nat :=
  let c0_i32_282 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_281 : BitVec 32 := 8#32
  let v318 : BitVec 32 := Scalar.muli v2 c8_i32_281
  let v319 : BitVec 32 := Scalar.addi c0_i32_282 v318
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_283 : BitVec 32 := 4#32
  let v320 : BitVec 32 := Scalar.muli v5 c4_i32_283
  let v321 : BitVec 32 := Scalar.addi v319 v320
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v22 : BitVec 32 := Scalar.addi v8 c2_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_284 : BitVec 32 := 1#32
  let v322 : BitVec 32 := Scalar.muli v32 c1_i32_284
  let v323 : BitVec 32 := Scalar.addi v321 v322
  v323.toNat
def k0_dev12 (d0 : Dev nD) : Nat :=
  let c0_i32_296 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_295 : BitVec 32 := 8#32
  let v332 : BitVec 32 := Scalar.muli v2 c8_i32_295
  let v333 : BitVec 32 := Scalar.addi c0_i32_296 v332
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_297 : BitVec 32 := 4#32
  let v334 : BitVec 32 := Scalar.muli v5 c4_i32_297
  let v335 : BitVec 32 := Scalar.addi v333 v334
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v33 : BitVec 32 := Scalar.addi v8 c3_i32
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c1_i32_298 : BitVec 32 := 1#32
  let v336 : BitVec 32 := Scalar.muli v43 c1_i32_298
  let v337 : BitVec 32 := Scalar.addi v335 v336
  v337.toNat
def k0_off3 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v361 : Index := Scalar.indexCast v10
  let c0_313 : Index := 0#32
  let c0_314 : Index := 0#32
  ![v361.toNat, 0, 0]
def k0_off4 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_323 : BitVec 32 := 0#32
  let c0_i32_324 : BitVec 32 := 0#32
  ![v10.toNat, 0, 0]
def k0_dev13 (d0 : Dev nD) : Nat :=
  let c0_i32_320 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_22 : BitVec 32 := 1#32
  let v44 : BitVec 32 := Scalar.xori v2 c1_i32_22
  let c8_i32_319 : BitVec 32 := 8#32
  let v365 : BitVec 32 := Scalar.muli v44 c8_i32_319
  let v366 : BitVec 32 := Scalar.addi c0_i32_320 v365
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_23 : BitVec 32 := 0#32
  let v45 : BitVec 32 := Scalar.xori v5 c0_i32_23
  let c4_i32_321 : BitVec 32 := 4#32
  let v367 : BitVec 32 := Scalar.muli v45 c4_i32_321
  let v368 : BitVec 32 := Scalar.addi v366 v367
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_322 : BitVec 32 := 1#32
  let v369 : BitVec 32 := Scalar.muli v8 c1_i32_322
  let v370 : BitVec 32 := Scalar.addi v368 v369
  v370.toNat
def k0_dev14 (d0 : Dev nD) : Nat :=
  let c0_i32_332 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_24 : BitVec 32 := 0#32
  let v46 : BitVec 32 := Scalar.xori v2 c0_i32_24
  let c8_i32_331 : BitVec 32 := 8#32
  let v379 : BitVec 32 := Scalar.muli v46 c8_i32_331
  let v380 : BitVec 32 := Scalar.addi c0_i32_332 v379
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_25 : BitVec 32 := 1#32
  let v47 : BitVec 32 := Scalar.xori v5 c1_i32_25
  let c4_i32_333 : BitVec 32 := 4#32
  let v381 : BitVec 32 := Scalar.muli v47 c4_i32_333
  let v382 : BitVec 32 := Scalar.addi v380 v381
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v383 : BitVec 32 := Scalar.muli v8 c1_i32_334
  let v384 : BitVec 32 := Scalar.addi v382 v383
  v384.toNat
def k0_dev15 (d0 : Dev nD) : Nat :=
  let c0_i32_344 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_26 : BitVec 32 := 1#32
  let v48 : BitVec 32 := Scalar.xori v2 c1_i32_26
  let c8_i32_343 : BitVec 32 := 8#32
  let v393 : BitVec 32 := Scalar.muli v48 c8_i32_343
  let v394 : BitVec 32 := Scalar.addi c0_i32_344 v393
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_27 : BitVec 32 := 1#32
  let v49 : BitVec 32 := Scalar.xori v5 c1_i32_27
  let c4_i32_345 : BitVec 32 := 4#32
  let v395 : BitVec 32 := Scalar.muli v49 c4_i32_345
  let v396 : BitVec 32 := Scalar.addi v394 v395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_346 : BitVec 32 := 1#32
  let v397 : BitVec 32 := Scalar.muli v8 c1_i32_346
  let v398 : BitVec 32 := Scalar.addi v396 v397
  v398.toNat
def k0_dev16 (d0 : Dev nD) : Nat :=
  let c0_i32_445 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_444 : BitVec 32 := 8#32
  let v479 : BitVec 32 := Scalar.muli v2 c8_i32_444
  let v480 : BitVec 32 := Scalar.addi c0_i32_445 v479
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_446 : BitVec 32 := 4#32
  let v481 : BitVec 32 := Scalar.muli v5 c4_i32_446
  let v482 : BitVec 32 := Scalar.addi v480 v481
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_447 : BitVec 32 := 1#32
  let v483 : BitVec 32 := Scalar.muli v21 c1_i32_447
  let v484 : BitVec 32 := Scalar.addi v482 v483
  v484.toNat
def k0_dev17 (d0 : Dev nD) : Nat :=
  let c0_i32_458 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_457 : BitVec 32 := 8#32
  let v493 : BitVec 32 := Scalar.muli v2 c8_i32_457
  let v494 : BitVec 32 := Scalar.addi c0_i32_458 v493
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_459 : BitVec 32 := 4#32
  let v495 : BitVec 32 := Scalar.muli v5 c4_i32_459
  let v496 : BitVec 32 := Scalar.addi v494 v495
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v22 : BitVec 32 := Scalar.addi v8 c2_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_460 : BitVec 32 := 1#32
  let v497 : BitVec 32 := Scalar.muli v32 c1_i32_460
  let v498 : BitVec 32 := Scalar.addi v496 v497
  v498.toNat
def k0_dev18 (d0 : Dev nD) : Nat :=
  let c0_i32_472 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_471 : BitVec 32 := 8#32
  let v507 : BitVec 32 := Scalar.muli v2 c8_i32_471
  let v508 : BitVec 32 := Scalar.addi c0_i32_472 v507
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_473 : BitVec 32 := 4#32
  let v509 : BitVec 32 := Scalar.muli v5 c4_i32_473
  let v510 : BitVec 32 := Scalar.addi v508 v509
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v33 : BitVec 32 := Scalar.addi v8 c3_i32
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c1_i32_474 : BitVec 32 := 1#32
  let v511 : BitVec 32 := Scalar.muli v43 c1_i32_474
  let v512 : BitVec 32 := Scalar.addi v510 v511
  v512.toNat
def k0_off5 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v536 : Index := Scalar.indexCast v10
  let c64_489 : Index := 64#32
  let c0_490 : Index := 0#32
  ![v536.toNat, 64, 0]
def k0_off6 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c64_i32_499 : BitVec 32 := 64#32
  let c0_i32_500 : BitVec 32 := 0#32
  ![v10.toNat, 64, 0]
def k0_dev19 (d0 : Dev nD) : Nat :=
  let c0_i32_496 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_22 : BitVec 32 := 1#32
  let v44 : BitVec 32 := Scalar.xori v2 c1_i32_22
  let c8_i32_495 : BitVec 32 := 8#32
  let v540 : BitVec 32 := Scalar.muli v44 c8_i32_495
  let v541 : BitVec 32 := Scalar.addi c0_i32_496 v540
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_23 : BitVec 32 := 0#32
  let v45 : BitVec 32 := Scalar.xori v5 c0_i32_23
  let c4_i32_497 : BitVec 32 := 4#32
  let v542 : BitVec 32 := Scalar.muli v45 c4_i32_497
  let v543 : BitVec 32 := Scalar.addi v541 v542
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_498 : BitVec 32 := 1#32
  let v544 : BitVec 32 := Scalar.muli v8 c1_i32_498
  let v545 : BitVec 32 := Scalar.addi v543 v544
  v545.toNat
def k0_dev20 (d0 : Dev nD) : Nat :=
  let c0_i32_508 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_24 : BitVec 32 := 0#32
  let v46 : BitVec 32 := Scalar.xori v2 c0_i32_24
  let c8_i32_507 : BitVec 32 := 8#32
  let v554 : BitVec 32 := Scalar.muli v46 c8_i32_507
  let v555 : BitVec 32 := Scalar.addi c0_i32_508 v554
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_25 : BitVec 32 := 1#32
  let v47 : BitVec 32 := Scalar.xori v5 c1_i32_25
  let c4_i32_509 : BitVec 32 := 4#32
  let v556 : BitVec 32 := Scalar.muli v47 c4_i32_509
  let v557 : BitVec 32 := Scalar.addi v555 v556
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_510 : BitVec 32 := 1#32
  let v558 : BitVec 32 := Scalar.muli v8 c1_i32_510
  let v559 : BitVec 32 := Scalar.addi v557 v558
  v559.toNat
def k0_dev21 (d0 : Dev nD) : Nat :=
  let c0_i32_520 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_26 : BitVec 32 := 1#32
  let v48 : BitVec 32 := Scalar.xori v2 c1_i32_26
  let c8_i32_519 : BitVec 32 := 8#32
  let v568 : BitVec 32 := Scalar.muli v48 c8_i32_519
  let v569 : BitVec 32 := Scalar.addi c0_i32_520 v568
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_27 : BitVec 32 := 1#32
  let v49 : BitVec 32 := Scalar.xori v5 c1_i32_27
  let c4_i32_521 : BitVec 32 := 4#32
  let v570 : BitVec 32 := Scalar.muli v49 c4_i32_521
  let v571 : BitVec 32 := Scalar.addi v569 v570
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_522 : BitVec 32 := 1#32
  let v572 : BitVec 32 := Scalar.muli v8 c1_i32_522
  let v573 : BitVec 32 := Scalar.addi v571 v572
  v573.toNat
def k0_dev22 (d0 : Dev nD) : Nat :=
  let c0_i32_621 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_620 : BitVec 32 := 8#32
  let v654 : BitVec 32 := Scalar.muli v2 c8_i32_620
  let v655 : BitVec 32 := Scalar.addi c0_i32_621 v654
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_622 : BitVec 32 := 4#32
  let v656 : BitVec 32 := Scalar.muli v5 c4_i32_622
  let v657 : BitVec 32 := Scalar.addi v655 v656
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_623 : BitVec 32 := 1#32
  let v658 : BitVec 32 := Scalar.muli v21 c1_i32_623
  let v659 : BitVec 32 := Scalar.addi v657 v658
  v659.toNat
def k0_dev23 (d0 : Dev nD) : Nat :=
  let c0_i32_634 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_633 : BitVec 32 := 8#32
  let v668 : BitVec 32 := Scalar.muli v2 c8_i32_633
  let v669 : BitVec 32 := Scalar.addi c0_i32_634 v668
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_635 : BitVec 32 := 4#32
  let v670 : BitVec 32 := Scalar.muli v5 c4_i32_635
  let v671 : BitVec 32 := Scalar.addi v669 v670
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v22 : BitVec 32 := Scalar.addi v8 c2_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_636 : BitVec 32 := 1#32
  let v672 : BitVec 32 := Scalar.muli v32 c1_i32_636
  let v673 : BitVec 32 := Scalar.addi v671 v672
  v673.toNat
def k0_dev24 (d0 : Dev nD) : Nat :=
  let c0_i32_648 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_647 : BitVec 32 := 8#32
  let v682 : BitVec 32 := Scalar.muli v2 c8_i32_647
  let v683 : BitVec 32 := Scalar.addi c0_i32_648 v682
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_649 : BitVec 32 := 4#32
  let v684 : BitVec 32 := Scalar.muli v5 c4_i32_649
  let v685 : BitVec 32 := Scalar.addi v683 v684
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v33 : BitVec 32 := Scalar.addi v8 c3_i32
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c1_i32_650 : BitVec 32 := 1#32
  let v686 : BitVec 32 := Scalar.muli v43 c1_i32_650
  let v687 : BitVec 32 := Scalar.addi v685 v686
  v687.toNat
def k0_off7 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v711 : Index := Scalar.indexCast v10
  let c128_665 : Index := 128#32
  let c0_666 : Index := 0#32
  ![v711.toNat, 128, 0]
def k0_off8 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c128_i32_675 : BitVec 32 := 128#32
  let c0_i32_676 : BitVec 32 := 0#32
  ![v10.toNat, 128, 0]
def k0_dev25 (d0 : Dev nD) : Nat :=
  let c0_i32_672 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_22 : BitVec 32 := 1#32
  let v44 : BitVec 32 := Scalar.xori v2 c1_i32_22
  let c8_i32_671 : BitVec 32 := 8#32
  let v715 : BitVec 32 := Scalar.muli v44 c8_i32_671
  let v716 : BitVec 32 := Scalar.addi c0_i32_672 v715
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_23 : BitVec 32 := 0#32
  let v45 : BitVec 32 := Scalar.xori v5 c0_i32_23
  let c4_i32_673 : BitVec 32 := 4#32
  let v717 : BitVec 32 := Scalar.muli v45 c4_i32_673
  let v718 : BitVec 32 := Scalar.addi v716 v717
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_674 : BitVec 32 := 1#32
  let v719 : BitVec 32 := Scalar.muli v8 c1_i32_674
  let v720 : BitVec 32 := Scalar.addi v718 v719
  v720.toNat
def k0_dev26 (d0 : Dev nD) : Nat :=
  let c0_i32_684 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_24 : BitVec 32 := 0#32
  let v46 : BitVec 32 := Scalar.xori v2 c0_i32_24
  let c8_i32_683 : BitVec 32 := 8#32
  let v729 : BitVec 32 := Scalar.muli v46 c8_i32_683
  let v730 : BitVec 32 := Scalar.addi c0_i32_684 v729
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_25 : BitVec 32 := 1#32
  let v47 : BitVec 32 := Scalar.xori v5 c1_i32_25
  let c4_i32_685 : BitVec 32 := 4#32
  let v731 : BitVec 32 := Scalar.muli v47 c4_i32_685
  let v732 : BitVec 32 := Scalar.addi v730 v731
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_686 : BitVec 32 := 1#32
  let v733 : BitVec 32 := Scalar.muli v8 c1_i32_686
  let v734 : BitVec 32 := Scalar.addi v732 v733
  v734.toNat
def k0_dev27 (d0 : Dev nD) : Nat :=
  let c0_i32_696 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_26 : BitVec 32 := 1#32
  let v48 : BitVec 32 := Scalar.xori v2 c1_i32_26
  let c8_i32_695 : BitVec 32 := 8#32
  let v743 : BitVec 32 := Scalar.muli v48 c8_i32_695
  let v744 : BitVec 32 := Scalar.addi c0_i32_696 v743
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_27 : BitVec 32 := 1#32
  let v49 : BitVec 32 := Scalar.xori v5 c1_i32_27
  let c4_i32_697 : BitVec 32 := 4#32
  let v745 : BitVec 32 := Scalar.muli v49 c4_i32_697
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_698 : BitVec 32 := 1#32
  let v747 : BitVec 32 := Scalar.muli v8 c1_i32_698
  let v748 : BitVec 32 := Scalar.addi v746 v747
  v748.toNat
def k0_dev28 (d0 : Dev nD) : Nat :=
  let c0_i32_797 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_796 : BitVec 32 := 8#32
  let v829 : BitVec 32 := Scalar.muli v2 c8_i32_796
  let v830 : BitVec 32 := Scalar.addi c0_i32_797 v829
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_798 : BitVec 32 := 4#32
  let v831 : BitVec 32 := Scalar.muli v5 c4_i32_798
  let v832 : BitVec 32 := Scalar.addi v830 v831
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_799 : BitVec 32 := 1#32
  let v833 : BitVec 32 := Scalar.muli v21 c1_i32_799
  let v834 : BitVec 32 := Scalar.addi v832 v833
  v834.toNat
def k0_dev29 (d0 : Dev nD) : Nat :=
  let c0_i32_810 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_809 : BitVec 32 := 8#32
  let v843 : BitVec 32 := Scalar.muli v2 c8_i32_809
  let v844 : BitVec 32 := Scalar.addi c0_i32_810 v843
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_811 : BitVec 32 := 4#32
  let v845 : BitVec 32 := Scalar.muli v5 c4_i32_811
  let v846 : BitVec 32 := Scalar.addi v844 v845
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v22 : BitVec 32 := Scalar.addi v8 c2_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_812 : BitVec 32 := 1#32
  let v847 : BitVec 32 := Scalar.muli v32 c1_i32_812
  let v848 : BitVec 32 := Scalar.addi v846 v847
  v848.toNat
def k0_dev30 (d0 : Dev nD) : Nat :=
  let c0_i32_824 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_823 : BitVec 32 := 8#32
  let v857 : BitVec 32 := Scalar.muli v2 c8_i32_823
  let v858 : BitVec 32 := Scalar.addi c0_i32_824 v857
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_825 : BitVec 32 := 4#32
  let v859 : BitVec 32 := Scalar.muli v5 c4_i32_825
  let v860 : BitVec 32 := Scalar.addi v858 v859
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v33 : BitVec 32 := Scalar.addi v8 c3_i32
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c1_i32_826 : BitVec 32 := 1#32
  let v861 : BitVec 32 := Scalar.muli v43 c1_i32_826
  let v862 : BitVec 32 := Scalar.addi v860 v861
  v862.toNat
def k0_off9 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v886 : Index := Scalar.indexCast v10
  let c192_841 : Index := 192#32
  let c0_842 : Index := 0#32
  ![v886.toNat, 192, 0]
def k0_off10 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c192_i32_851 : BitVec 32 := 192#32
  let c0_i32_852 : BitVec 32 := 0#32
  ![v10.toNat, 192, 0]
def k0_dev31 (d0 : Dev nD) : Nat :=
  let c0_i32_848 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_22 : BitVec 32 := 1#32
  let v44 : BitVec 32 := Scalar.xori v2 c1_i32_22
  let c8_i32_847 : BitVec 32 := 8#32
  let v890 : BitVec 32 := Scalar.muli v44 c8_i32_847
  let v891 : BitVec 32 := Scalar.addi c0_i32_848 v890
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_23 : BitVec 32 := 0#32
  let v45 : BitVec 32 := Scalar.xori v5 c0_i32_23
  let c4_i32_849 : BitVec 32 := 4#32
  let v892 : BitVec 32 := Scalar.muli v45 c4_i32_849
  let v893 : BitVec 32 := Scalar.addi v891 v892
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_850 : BitVec 32 := 1#32
  let v894 : BitVec 32 := Scalar.muli v8 c1_i32_850
  let v895 : BitVec 32 := Scalar.addi v893 v894
  v895.toNat
def k0_dev32 (d0 : Dev nD) : Nat :=
  let c0_i32_860 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_24 : BitVec 32 := 0#32
  let v46 : BitVec 32 := Scalar.xori v2 c0_i32_24
  let c8_i32_859 : BitVec 32 := 8#32
  let v904 : BitVec 32 := Scalar.muli v46 c8_i32_859
  let v905 : BitVec 32 := Scalar.addi c0_i32_860 v904
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_25 : BitVec 32 := 1#32
  let v47 : BitVec 32 := Scalar.xori v5 c1_i32_25
  let c4_i32_861 : BitVec 32 := 4#32
  let v906 : BitVec 32 := Scalar.muli v47 c4_i32_861
  let v907 : BitVec 32 := Scalar.addi v905 v906
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_862 : BitVec 32 := 1#32
  let v908 : BitVec 32 := Scalar.muli v8 c1_i32_862
  let v909 : BitVec 32 := Scalar.addi v907 v908
  v909.toNat
def k0_dev33 (d0 : Dev nD) : Nat :=
  let c0_i32_872 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_26 : BitVec 32 := 1#32
  let v48 : BitVec 32 := Scalar.xori v2 c1_i32_26
  let c8_i32_871 : BitVec 32 := 8#32
  let v918 : BitVec 32 := Scalar.muli v48 c8_i32_871
  let v919 : BitVec 32 := Scalar.addi c0_i32_872 v918
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_27 : BitVec 32 := 1#32
  let v49 : BitVec 32 := Scalar.xori v5 c1_i32_27
  let c4_i32_873 : BitVec 32 := 4#32
  let v920 : BitVec 32 := Scalar.muli v49 c4_i32_873
  let v921 : BitVec 32 := Scalar.addi v919 v920
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_874 : BitVec 32 := 1#32
  let v922 : BitVec 32 := Scalar.muli v8 c1_i32_874
  let v923 : BitVec 32 := Scalar.addi v921 v922
  v923.toNat
def k0_dev34 (d0 : Dev nD) : Nat :=
  let c0_i32_972 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_971 : BitVec 32 := 8#32
  let v1004 : BitVec 32 := Scalar.muli v2 c8_i32_971
  let v1005 : BitVec 32 := Scalar.addi c0_i32_972 v1004
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_973 : BitVec 32 := 4#32
  let v1006 : BitVec 32 := Scalar.muli v5 c4_i32_973
  let v1007 : BitVec 32 := Scalar.addi v1005 v1006
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_974 : BitVec 32 := 1#32
  let v1008 : BitVec 32 := Scalar.muli v21 c1_i32_974
  let v1009 : BitVec 32 := Scalar.addi v1007 v1008
  v1009.toNat
def k0_dev35 (d0 : Dev nD) : Nat :=
  let c0_i32_985 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_984 : BitVec 32 := 8#32
  let v1018 : BitVec 32 := Scalar.muli v2 c8_i32_984
  let v1019 : BitVec 32 := Scalar.addi c0_i32_985 v1018
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_986 : BitVec 32 := 4#32
  let v1020 : BitVec 32 := Scalar.muli v5 c4_i32_986
  let v1021 : BitVec 32 := Scalar.addi v1019 v1020
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v22 : BitVec 32 := Scalar.addi v8 c2_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_987 : BitVec 32 := 1#32
  let v1022 : BitVec 32 := Scalar.muli v32 c1_i32_987
  let v1023 : BitVec 32 := Scalar.addi v1021 v1022
  v1023.toNat
def k0_dev36 (d0 : Dev nD) : Nat :=
  let c0_i32_999 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_998 : BitVec 32 := 8#32
  let v1032 : BitVec 32 := Scalar.muli v2 c8_i32_998
  let v1033 : BitVec 32 := Scalar.addi c0_i32_999 v1032
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1000 : BitVec 32 := 4#32
  let v1034 : BitVec 32 := Scalar.muli v5 c4_i32_1000
  let v1035 : BitVec 32 := Scalar.addi v1033 v1034
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v33 : BitVec 32 := Scalar.addi v8 c3_i32
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c1_i32_1001 : BitVec 32 := 1#32
  let v1036 : BitVec 32 := Scalar.muli v43 c1_i32_1001
  let v1037 : BitVec 32 := Scalar.addi v1035 v1036
  v1037.toNat
def k0_off11 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v1061 : Index := Scalar.indexCast v10
  let c256_1016 : Index := 256#32
  let c0_1017 : Index := 0#32
  ![v1061.toNat, 256, 0]
def k0_off12 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_1026 : BitVec 32 := 256#32
  let c0_i32_1027 : BitVec 32 := 0#32
  ![v10.toNat, 256, 0]
def k0_dev37 (d0 : Dev nD) : Nat :=
  let c0_i32_1023 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_22 : BitVec 32 := 1#32
  let v44 : BitVec 32 := Scalar.xori v2 c1_i32_22
  let c8_i32_1022 : BitVec 32 := 8#32
  let v1065 : BitVec 32 := Scalar.muli v44 c8_i32_1022
  let v1066 : BitVec 32 := Scalar.addi c0_i32_1023 v1065
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_23 : BitVec 32 := 0#32
  let v45 : BitVec 32 := Scalar.xori v5 c0_i32_23
  let c4_i32_1024 : BitVec 32 := 4#32
  let v1067 : BitVec 32 := Scalar.muli v45 c4_i32_1024
  let v1068 : BitVec 32 := Scalar.addi v1066 v1067
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1025 : BitVec 32 := 1#32
  let v1069 : BitVec 32 := Scalar.muli v8 c1_i32_1025
  let v1070 : BitVec 32 := Scalar.addi v1068 v1069
  v1070.toNat
def k0_dev38 (d0 : Dev nD) : Nat :=
  let c0_i32_1035 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_24 : BitVec 32 := 0#32
  let v46 : BitVec 32 := Scalar.xori v2 c0_i32_24
  let c8_i32_1034 : BitVec 32 := 8#32
  let v1079 : BitVec 32 := Scalar.muli v46 c8_i32_1034
  let v1080 : BitVec 32 := Scalar.addi c0_i32_1035 v1079
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_25 : BitVec 32 := 1#32
  let v47 : BitVec 32 := Scalar.xori v5 c1_i32_25
  let c4_i32_1036 : BitVec 32 := 4#32
  let v1081 : BitVec 32 := Scalar.muli v47 c4_i32_1036
  let v1082 : BitVec 32 := Scalar.addi v1080 v1081
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1037 : BitVec 32 := 1#32
  let v1083 : BitVec 32 := Scalar.muli v8 c1_i32_1037
  let v1084 : BitVec 32 := Scalar.addi v1082 v1083
  v1084.toNat
def k0_dev39 (d0 : Dev nD) : Nat :=
  let c0_i32_1047 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_26 : BitVec 32 := 1#32
  let v48 : BitVec 32 := Scalar.xori v2 c1_i32_26
  let c8_i32_1046 : BitVec 32 := 8#32
  let v1093 : BitVec 32 := Scalar.muli v48 c8_i32_1046
  let v1094 : BitVec 32 := Scalar.addi c0_i32_1047 v1093
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_27 : BitVec 32 := 1#32
  let v49 : BitVec 32 := Scalar.xori v5 c1_i32_27
  let c4_i32_1048 : BitVec 32 := 4#32
  let v1095 : BitVec 32 := Scalar.muli v49 c4_i32_1048
  let v1096 : BitVec 32 := Scalar.addi v1094 v1095
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1049 : BitVec 32 := 1#32
  let v1097 : BitVec 32 := Scalar.muli v8 c1_i32_1049
  let v1098 : BitVec 32 := Scalar.addi v1096 v1097
  v1098.toNat
def k0_dev40 (d0 : Dev nD) : Nat :=
  let c0_i32_1148 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1147 : BitVec 32 := 8#32
  let v1179 : BitVec 32 := Scalar.muli v2 c8_i32_1147
  let v1180 : BitVec 32 := Scalar.addi c0_i32_1148 v1179
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1149 : BitVec 32 := 4#32
  let v1181 : BitVec 32 := Scalar.muli v5 c4_i32_1149
  let v1182 : BitVec 32 := Scalar.addi v1180 v1181
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_1150 : BitVec 32 := 1#32
  let v1183 : BitVec 32 := Scalar.muli v21 c1_i32_1150
  let v1184 : BitVec 32 := Scalar.addi v1182 v1183
  v1184.toNat
def k0_dev41 (d0 : Dev nD) : Nat :=
  let c0_i32_1161 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1160 : BitVec 32 := 8#32
  let v1193 : BitVec 32 := Scalar.muli v2 c8_i32_1160
  let v1194 : BitVec 32 := Scalar.addi c0_i32_1161 v1193
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1162 : BitVec 32 := 4#32
  let v1195 : BitVec 32 := Scalar.muli v5 c4_i32_1162
  let v1196 : BitVec 32 := Scalar.addi v1194 v1195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v22 : BitVec 32 := Scalar.addi v8 c2_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_1163 : BitVec 32 := 1#32
  let v1197 : BitVec 32 := Scalar.muli v32 c1_i32_1163
  let v1198 : BitVec 32 := Scalar.addi v1196 v1197
  v1198.toNat
def k0_dev42 (d0 : Dev nD) : Nat :=
  let c0_i32_1175 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1174 : BitVec 32 := 8#32
  let v1207 : BitVec 32 := Scalar.muli v2 c8_i32_1174
  let v1208 : BitVec 32 := Scalar.addi c0_i32_1175 v1207
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1176 : BitVec 32 := 4#32
  let v1209 : BitVec 32 := Scalar.muli v5 c4_i32_1176
  let v1210 : BitVec 32 := Scalar.addi v1208 v1209
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v33 : BitVec 32 := Scalar.addi v8 c3_i32
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c1_i32_1177 : BitVec 32 := 1#32
  let v1211 : BitVec 32 := Scalar.muli v43 c1_i32_1177
  let v1212 : BitVec 32 := Scalar.addi v1210 v1211
  v1212.toNat
def k0_off13 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v1236 : Index := Scalar.indexCast v10
  let c320_1192 : Index := 320#32
  let c0_1193 : Index := 0#32
  ![v1236.toNat, 320, 0]
def k0_off14 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c320_i32_1202 : BitVec 32 := 320#32
  let c0_i32_1203 : BitVec 32 := 0#32
  ![v10.toNat, 320, 0]
def k0_dev43 (d0 : Dev nD) : Nat :=
  let c0_i32_1199 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_22 : BitVec 32 := 1#32
  let v44 : BitVec 32 := Scalar.xori v2 c1_i32_22
  let c8_i32_1198 : BitVec 32 := 8#32
  let v1240 : BitVec 32 := Scalar.muli v44 c8_i32_1198
  let v1241 : BitVec 32 := Scalar.addi c0_i32_1199 v1240
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_23 : BitVec 32 := 0#32
  let v45 : BitVec 32 := Scalar.xori v5 c0_i32_23
  let c4_i32_1200 : BitVec 32 := 4#32
  let v1242 : BitVec 32 := Scalar.muli v45 c4_i32_1200
  let v1243 : BitVec 32 := Scalar.addi v1241 v1242
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1201 : BitVec 32 := 1#32
  let v1244 : BitVec 32 := Scalar.muli v8 c1_i32_1201
  let v1245 : BitVec 32 := Scalar.addi v1243 v1244
  v1245.toNat
def k0_dev44 (d0 : Dev nD) : Nat :=
  let c0_i32_1211 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_24 : BitVec 32 := 0#32
  let v46 : BitVec 32 := Scalar.xori v2 c0_i32_24
  let c8_i32_1210 : BitVec 32 := 8#32
  let v1254 : BitVec 32 := Scalar.muli v46 c8_i32_1210
  let v1255 : BitVec 32 := Scalar.addi c0_i32_1211 v1254
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_25 : BitVec 32 := 1#32
  let v47 : BitVec 32 := Scalar.xori v5 c1_i32_25
  let c4_i32_1212 : BitVec 32 := 4#32
  let v1256 : BitVec 32 := Scalar.muli v47 c4_i32_1212
  let v1257 : BitVec 32 := Scalar.addi v1255 v1256
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1213 : BitVec 32 := 1#32
  let v1258 : BitVec 32 := Scalar.muli v8 c1_i32_1213
  let v1259 : BitVec 32 := Scalar.addi v1257 v1258
  v1259.toNat
def k0_dev45 (d0 : Dev nD) : Nat :=
  let c0_i32_1223 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_26 : BitVec 32 := 1#32
  let v48 : BitVec 32 := Scalar.xori v2 c1_i32_26
  let c8_i32_1222 : BitVec 32 := 8#32
  let v1268 : BitVec 32 := Scalar.muli v48 c8_i32_1222
  let v1269 : BitVec 32 := Scalar.addi c0_i32_1223 v1268
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_27 : BitVec 32 := 1#32
  let v49 : BitVec 32 := Scalar.xori v5 c1_i32_27
  let c4_i32_1224 : BitVec 32 := 4#32
  let v1270 : BitVec 32 := Scalar.muli v49 c4_i32_1224
  let v1271 : BitVec 32 := Scalar.addi v1269 v1270
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1225 : BitVec 32 := 1#32
  let v1272 : BitVec 32 := Scalar.muli v8 c1_i32_1225
  let v1273 : BitVec 32 := Scalar.addi v1271 v1272
  v1273.toNat
def k0_dev46 (d0 : Dev nD) : Nat :=
  let c0_i32_1323 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1322 : BitVec 32 := 8#32
  let v1354 : BitVec 32 := Scalar.muli v2 c8_i32_1322
  let v1355 : BitVec 32 := Scalar.addi c0_i32_1323 v1354
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1324 : BitVec 32 := 4#32
  let v1356 : BitVec 32 := Scalar.muli v5 c4_i32_1324
  let v1357 : BitVec 32 := Scalar.addi v1355 v1356
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_1325 : BitVec 32 := 1#32
  let v1358 : BitVec 32 := Scalar.muli v21 c1_i32_1325
  let v1359 : BitVec 32 := Scalar.addi v1357 v1358
  v1359.toNat
def k0_dev47 (d0 : Dev nD) : Nat :=
  let c0_i32_1336 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1335 : BitVec 32 := 8#32
  let v1368 : BitVec 32 := Scalar.muli v2 c8_i32_1335
  let v1369 : BitVec 32 := Scalar.addi c0_i32_1336 v1368
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1337 : BitVec 32 := 4#32
  let v1370 : BitVec 32 := Scalar.muli v5 c4_i32_1337
  let v1371 : BitVec 32 := Scalar.addi v1369 v1370
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v22 : BitVec 32 := Scalar.addi v8 c2_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_1338 : BitVec 32 := 1#32
  let v1372 : BitVec 32 := Scalar.muli v32 c1_i32_1338
  let v1373 : BitVec 32 := Scalar.addi v1371 v1372
  v1373.toNat
def k0_dev48 (d0 : Dev nD) : Nat :=
  let c0_i32_1350 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1349 : BitVec 32 := 8#32
  let v1382 : BitVec 32 := Scalar.muli v2 c8_i32_1349
  let v1383 : BitVec 32 := Scalar.addi c0_i32_1350 v1382
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1351 : BitVec 32 := 4#32
  let v1384 : BitVec 32 := Scalar.muli v5 c4_i32_1351
  let v1385 : BitVec 32 := Scalar.addi v1383 v1384
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v33 : BitVec 32 := Scalar.addi v8 c3_i32
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c1_i32_1352 : BitVec 32 := 1#32
  let v1386 : BitVec 32 := Scalar.muli v43 c1_i32_1352
  let v1387 : BitVec 32 := Scalar.addi v1385 v1386
  v1387.toNat
def k0_off15 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v1411 : Index := Scalar.indexCast v10
  let c384_1367 : Index := 384#32
  let c0_1368 : Index := 0#32
  ![v1411.toNat, 384, 0]
def k0_off16 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c384_i32_1377 : BitVec 32 := 384#32
  let c0_i32_1378 : BitVec 32 := 0#32
  ![v10.toNat, 384, 0]
def k0_dev49 (d0 : Dev nD) : Nat :=
  let c0_i32_1374 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_22 : BitVec 32 := 1#32
  let v44 : BitVec 32 := Scalar.xori v2 c1_i32_22
  let c8_i32_1373 : BitVec 32 := 8#32
  let v1415 : BitVec 32 := Scalar.muli v44 c8_i32_1373
  let v1416 : BitVec 32 := Scalar.addi c0_i32_1374 v1415
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_23 : BitVec 32 := 0#32
  let v45 : BitVec 32 := Scalar.xori v5 c0_i32_23
  let c4_i32_1375 : BitVec 32 := 4#32
  let v1417 : BitVec 32 := Scalar.muli v45 c4_i32_1375
  let v1418 : BitVec 32 := Scalar.addi v1416 v1417
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1376 : BitVec 32 := 1#32
  let v1419 : BitVec 32 := Scalar.muli v8 c1_i32_1376
  let v1420 : BitVec 32 := Scalar.addi v1418 v1419
  v1420.toNat
def k0_dev50 (d0 : Dev nD) : Nat :=
  let c0_i32_1386 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_24 : BitVec 32 := 0#32
  let v46 : BitVec 32 := Scalar.xori v2 c0_i32_24
  let c8_i32_1385 : BitVec 32 := 8#32
  let v1429 : BitVec 32 := Scalar.muli v46 c8_i32_1385
  let v1430 : BitVec 32 := Scalar.addi c0_i32_1386 v1429
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_25 : BitVec 32 := 1#32
  let v47 : BitVec 32 := Scalar.xori v5 c1_i32_25
  let c4_i32_1387 : BitVec 32 := 4#32
  let v1431 : BitVec 32 := Scalar.muli v47 c4_i32_1387
  let v1432 : BitVec 32 := Scalar.addi v1430 v1431
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1388 : BitVec 32 := 1#32
  let v1433 : BitVec 32 := Scalar.muli v8 c1_i32_1388
  let v1434 : BitVec 32 := Scalar.addi v1432 v1433
  v1434.toNat
def k0_dev51 (d0 : Dev nD) : Nat :=
  let c0_i32_1398 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_26 : BitVec 32 := 1#32
  let v48 : BitVec 32 := Scalar.xori v2 c1_i32_26
  let c8_i32_1397 : BitVec 32 := 8#32
  let v1443 : BitVec 32 := Scalar.muli v48 c8_i32_1397
  let v1444 : BitVec 32 := Scalar.addi c0_i32_1398 v1443
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_27 : BitVec 32 := 1#32
  let v49 : BitVec 32 := Scalar.xori v5 c1_i32_27
  let c4_i32_1399 : BitVec 32 := 4#32
  let v1445 : BitVec 32 := Scalar.muli v49 c4_i32_1399
  let v1446 : BitVec 32 := Scalar.addi v1444 v1445
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1400 : BitVec 32 := 1#32
  let v1447 : BitVec 32 := Scalar.muli v8 c1_i32_1400
  let v1448 : BitVec 32 := Scalar.addi v1446 v1447
  v1448.toNat
def k0_off17 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v1526 : Index := Scalar.indexCast v10
  let c448_1490 : Index := 448#32
  let c0_1491 : Index := 0#32
  ![v1526.toNat, 448, 0]
def k0_off18 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c448_i32_1500 : BitVec 32 := 448#32
  let c0_i32_1501 : BitVec 32 := 0#32
  ![v10.toNat, 448, 0]
def k0_dev52 (d0 : Dev nD) : Nat :=
  let c0_i32_1497 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_22 : BitVec 32 := 1#32
  let v44 : BitVec 32 := Scalar.xori v2 c1_i32_22
  let c8_i32_1496 : BitVec 32 := 8#32
  let v1530 : BitVec 32 := Scalar.muli v44 c8_i32_1496
  let v1531 : BitVec 32 := Scalar.addi c0_i32_1497 v1530
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_23 : BitVec 32 := 0#32
  let v45 : BitVec 32 := Scalar.xori v5 c0_i32_23
  let c4_i32_1498 : BitVec 32 := 4#32
  let v1532 : BitVec 32 := Scalar.muli v45 c4_i32_1498
  let v1533 : BitVec 32 := Scalar.addi v1531 v1532
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1499 : BitVec 32 := 1#32
  let v1534 : BitVec 32 := Scalar.muli v8 c1_i32_1499
  let v1535 : BitVec 32 := Scalar.addi v1533 v1534
  v1535.toNat
def k0_dev53 (d0 : Dev nD) : Nat :=
  let c0_i32_1509 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_24 : BitVec 32 := 0#32
  let v46 : BitVec 32 := Scalar.xori v2 c0_i32_24
  let c8_i32_1508 : BitVec 32 := 8#32
  let v1544 : BitVec 32 := Scalar.muli v46 c8_i32_1508
  let v1545 : BitVec 32 := Scalar.addi c0_i32_1509 v1544
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_25 : BitVec 32 := 1#32
  let v47 : BitVec 32 := Scalar.xori v5 c1_i32_25
  let c4_i32_1510 : BitVec 32 := 4#32
  let v1546 : BitVec 32 := Scalar.muli v47 c4_i32_1510
  let v1547 : BitVec 32 := Scalar.addi v1545 v1546
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1511 : BitVec 32 := 1#32
  let v1548 : BitVec 32 := Scalar.muli v8 c1_i32_1511
  let v1549 : BitVec 32 := Scalar.addi v1547 v1548
  v1549.toNat
def k0_dev54 (d0 : Dev nD) : Nat :=
  let c0_i32_1521 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_26 : BitVec 32 := 1#32
  let v48 : BitVec 32 := Scalar.xori v2 c1_i32_26
  let c8_i32_1520 : BitVec 32 := 8#32
  let v1558 : BitVec 32 := Scalar.muli v48 c8_i32_1520
  let v1559 : BitVec 32 := Scalar.addi c0_i32_1521 v1558
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_27 : BitVec 32 := 1#32
  let v49 : BitVec 32 := Scalar.xori v5 c1_i32_27
  let c4_i32_1522 : BitVec 32 := 4#32
  let v1560 : BitVec 32 := Scalar.muli v49 c4_i32_1522
  let v1561 : BitVec 32 := Scalar.addi v1559 v1560
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1523 : BitVec 32 := 1#32
  let v1562 : BitVec 32 := Scalar.muli v8 c1_i32_1523
  let v1563 : BitVec 32 := Scalar.addi v1561 v1562
  v1563.toNat
def k0_dev55 (d0 : Dev nD) : Nat :=
  let c0_i32_2289_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2288_r0 : BitVec 32 := 8#32
  let v2520_r0 : BitVec 32 := Scalar.muli v2 c8_i32_2288_r0
  let v2521_r0 : BitVec 32 := Scalar.addi c0_i32_2289_r0 v2520_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2290_r0 : BitVec 32 := 4#32
  let v2522_r0 : BitVec 32 := Scalar.muli v5 c4_i32_2290_r0
  let v2523_r0 : BitVec 32 := Scalar.addi v2521_r0 v2522_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_2291_r0 : BitVec 32 := 1#32
  let v2524_r0 : BitVec 32 := Scalar.muli v21 c1_i32_2291_r0
  let v2525_r0 : BitVec 32 := Scalar.addi v2523_r0 v2524_r0
  v2525_r0.toNat
def k0_dev56 (d0 : Dev nD) : Nat :=
  let c0_i32_2294_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2293_r0 : BitVec 32 := 8#32
  let v2526_r0 : BitVec 32 := Scalar.muli v2 c8_i32_2293_r0
  let v2527_r0 : BitVec 32 := Scalar.addi c0_i32_2294_r0 v2526_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2295_r0 : BitVec 32 := 4#32
  let v2528_r0 : BitVec 32 := Scalar.muli v5 c4_i32_2295_r0
  let v2529_r0 : BitVec 32 := Scalar.addi v2527_r0 v2528_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v22 : BitVec 32 := Scalar.addi v8 c2_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_2296_r0 : BitVec 32 := 1#32
  let v2530_r0 : BitVec 32 := Scalar.muli v32 c1_i32_2296_r0
  let v2531_r0 : BitVec 32 := Scalar.addi v2529_r0 v2530_r0
  v2531_r0.toNat
def k0_dev57 (d0 : Dev nD) : Nat :=
  let c0_i32_2299_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2298_r0 : BitVec 32 := 8#32
  let v2532_r0 : BitVec 32 := Scalar.muli v2 c8_i32_2298_r0
  let v2533_r0 : BitVec 32 := Scalar.addi c0_i32_2299_r0 v2532_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2300_r0 : BitVec 32 := 4#32
  let v2534_r0 : BitVec 32 := Scalar.muli v5 c4_i32_2300_r0
  let v2535_r0 : BitVec 32 := Scalar.addi v2533_r0 v2534_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v33 : BitVec 32 := Scalar.addi v8 c3_i32
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c1_i32_2301_r0 : BitVec 32 := 1#32
  let v2536_r0 : BitVec 32 := Scalar.muli v43 c1_i32_2301_r0
  let v2537_r0 : BitVec 32 := Scalar.addi v2535_r0 v2536_r0
  v2537_r0.toNat
def k0_dev58 (d0 : Dev nD) : Nat :=
  let c0_i32_2304_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_22 : BitVec 32 := 1#32
  let v44 : BitVec 32 := Scalar.xori v2 c1_i32_22
  let c8_i32_2303_r0 : BitVec 32 := 8#32
  let v2538_r0 : BitVec 32 := Scalar.muli v44 c8_i32_2303_r0
  let v2539_r0 : BitVec 32 := Scalar.addi c0_i32_2304_r0 v2538_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_23 : BitVec 32 := 0#32
  let v45 : BitVec 32 := Scalar.xori v5 c0_i32_23
  let c4_i32_2305_r0 : BitVec 32 := 4#32
  let v2540_r0 : BitVec 32 := Scalar.muli v45 c4_i32_2305_r0
  let v2541_r0 : BitVec 32 := Scalar.addi v2539_r0 v2540_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2306_r0 : BitVec 32 := 1#32
  let v2542_r0 : BitVec 32 := Scalar.muli v8 c1_i32_2306_r0
  let v2543_r0 : BitVec 32 := Scalar.addi v2541_r0 v2542_r0
  v2543_r0.toNat
def k0_dev59 (d0 : Dev nD) : Nat :=
  let c0_i32_2309_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_24 : BitVec 32 := 0#32
  let v46 : BitVec 32 := Scalar.xori v2 c0_i32_24
  let c8_i32_2308_r0 : BitVec 32 := 8#32
  let v2544_r0 : BitVec 32 := Scalar.muli v46 c8_i32_2308_r0
  let v2545_r0 : BitVec 32 := Scalar.addi c0_i32_2309_r0 v2544_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_25 : BitVec 32 := 1#32
  let v47 : BitVec 32 := Scalar.xori v5 c1_i32_25
  let c4_i32_2310_r0 : BitVec 32 := 4#32
  let v2546_r0 : BitVec 32 := Scalar.muli v47 c4_i32_2310_r0
  let v2547_r0 : BitVec 32 := Scalar.addi v2545_r0 v2546_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2311_r0 : BitVec 32 := 1#32
  let v2548_r0 : BitVec 32 := Scalar.muli v8 c1_i32_2311_r0
  let v2549_r0 : BitVec 32 := Scalar.addi v2547_r0 v2548_r0
  v2549_r0.toNat
def k0_dev60 (d0 : Dev nD) : Nat :=
  let c0_i32_2314_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_26 : BitVec 32 := 1#32
  let v48 : BitVec 32 := Scalar.xori v2 c1_i32_26
  let c8_i32_2313_r0 : BitVec 32 := 8#32
  let v2550_r0 : BitVec 32 := Scalar.muli v48 c8_i32_2313_r0
  let v2551_r0 : BitVec 32 := Scalar.addi c0_i32_2314_r0 v2550_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_27 : BitVec 32 := 1#32
  let v49 : BitVec 32 := Scalar.xori v5 c1_i32_27
  let c4_i32_2315_r0 : BitVec 32 := 4#32
  let v2552_r0 : BitVec 32 := Scalar.muli v49 c4_i32_2315_r0
  let v2553_r0 : BitVec 32 := Scalar.addi v2551_r0 v2552_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2316_r0 : BitVec 32 := 1#32
  let v2554_r0 : BitVec 32 := Scalar.muli v8 c1_i32_2316_r0
  let v2555_r0 : BitVec 32 := Scalar.addi v2553_r0 v2554_r0
  v2555_r0.toNat
abbrev stage0_0 : Fin 1 → Memref sig .tc .vmem S2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x8192x2048 : Shape := ⟨3, ![4, 8192, 2048]⟩
abbrev S2048 : Shape := ⟨1, ![2048]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Ideal.Prog.lean ====
/- The kernel's body as a short program over blocks: one block per step of the algorithm, each at a symbolic piece
   number `i`, peer number `j` and quarter `q`. The last theorem states that the printed body, which spells every piece
   out, is this program. -/
module

public import proofs.«01_k».proof.Proof.Gen.KernelIdeal
public import proofs.«01_k».proof.Proof.Gen.KernelIdeal.Points
public import Idealize.ShloMosaic.Lib.Pipeline.Kit
public import Idealize.ShloMosaic.Lib.Pipeline.Regions

@[expose] public section

noncomputable section

namespace Cert.KernelIdeal.Rms

open Cert.KernelIdeal Cert.KernelIdeal.Gen
open Idealize.ShloMosaic Idealize.ShloMosaic.TcCoe
open Idealize.SL Idealize.SL.Sem

variable {F : FTy → Type} [FloatOps F]

/-! ## The buffers -/

/-- The argument in HBM, the scale's and the result's staging buffers, and the three scratch buffers: what is sent to the
    peers along z, what they send, and the gathered sums. -/
abbrev xM : Memref sig .tc .hbm S1x8192x2048 .f32 := Memref.whole main_arg0
abbrev gM : Memref sig .tc .vmem S2048 .f32 := Memref.whole cc0_stg0_0
abbrev oM : Memref sig .tc .vmem S2048x2048 .f32 := Memref.whole cc0_stg1_0
abbrev sM : Memref sig .tc .vmem S3x512x2048 .bf16 := Memref.whole cc0_scratch0
abbrev rM : Memref sig .tc .vmem S3x512x2048 .bf16 := Memref.whole cc0_scratch1
abbrev aM : Memref sig .tc .vmem S4x512x2048 .bf16 := Memref.whole cc0_scratch2

/-! ## Rectangles: piece `i` is 64 rows -/

theorem inbZ (j : Fin 3) (i : Fin 8) : ∀ a, (![j.1, 64 * i.1, 0] : Fin 3 → Nat) a + S1x64x2048.size a ≤ S3x512x2048.size a := by
  revert j i; decide
theorem inbA (q : Fin 4) (i : Fin 8) : ∀ a, (![q.1, 64 * i.1, 0] : Fin 3 → Nat) a + S1x64x2048.size a ≤ S4x512x2048.size a := by
  revert q i; decide
theorem inbO (k : Fin 4) (i : Fin 8) : ∀ a, (![512 * k.1 + 64 * i.1, 0] : Fin 2 → Nat) a + S64x2048.size a ≤ S2048x2048.size a := by
  revert k i; decide
theorem inbQ (k : Fin 4) : ∀ a, (![512 * k.1, 0] : Fin 2 → Nat) a + S512x2048.size a ≤ S2048x2048.size a := by
  revert k; decide
theorem inbC (k : Fin 4) : ∀ a, (![k.1] : Fin 1 → Nat) a + S1.size a ≤ S4.size a := by
  revert k; decide
theorem inbS (j : Fin 3) (i : Fin 8) : ∀ a, (![j.1, i.1] : Fin 2 → Nat) a + S1x1.size a ≤ S3x8.size a := by
  revert j i; decide

/-- Piece `i` of slab `j` of a three-slab buffer. -/
abbrev rZ (j : Fin 3) (i : Fin 8) : Rect S3x512x2048 := Rect.unit (s := S3x512x2048) ![j.1, 64 * i.1, 0] S1x64x2048.size (inbZ j i)
/-- Piece `i` of slab `q` of the gathered sums. -/
abbrev rA (q : Fin 4) (i : Fin 8) : Rect S4x512x2048 := Rect.unit (s := S4x512x2048) ![q.1, 64 * i.1, 0] S1x64x2048.size (inbA q i)
/-- Piece `i` of quarter `k` of the result block. -/
abbrev rO (k : Fin 4) (i : Fin 8) : Rect S2048x2048 := Rect.unit (s := S2048x2048) ![512 * k.1 + 64 * i.1, 0] S64x2048.size (inbO k i)
/-- Quarter `k` of the result block. -/
abbrev rQ (k : Fin 4) : Rect S2048x2048 := Rect.unit (s := S2048x2048) ![512 * k.1, 0] S512x2048.size (inbQ k)

theorem pkZ (j : Fin 3) (i : Fin 8) : (rZ j i).PackedRows (EltTy.packing .bf16) := by revert j i; decide
theorem wwZ (j : Fin 3) (i : Fin 8) : (rZ j i).WholeWords (EltTy.packing .bf16) := by revert j i; decide

/-- An offset into the gathered sums that a store may use, and one that a transfer may use. -/
structure PkOff where
  o : Fin 3 → Nat
  inb : ∀ a, o a + S1x64x2048.size a ≤ S4x512x2048.size a
  pk : (Rect.unit (s := S4x512x2048) o S1x64x2048.size inb).PackedRows (EltTy.packing .bf16)
structure WdOff where
  o : Fin 3 → Nat
  inb : ∀ a, o a + S1x64x2048.size a ≤ S4x512x2048.size a
  ww : (Rect.unit (s := S4x512x2048) o S1x64x2048.size inb).WholeWords (EltTy.packing .bf16)
/-- An offset into the argument that a copy of 512 rows may use. -/
structure XOff where
  o : Fin 3 → Nat
  inb : ∀ a, o a + S1x512x2048.size a ≤ S1x8192x2048.size a

abbrev PkOff.r (w : PkOff) : Rect S4x512x2048 := Rect.unit (s := S4x512x2048) w.o S1x64x2048.size w.inb
abbrev WdOff.r (w : WdOff) : Rect S4x512x2048 := Rect.unit (s := S4x512x2048) w.o S1x64x2048.size w.inb

/-- Piece memrefs as the transfers name them: the rectangle, its leading axis dropped. -/
abbrev zP (m : Memref sig .tc .vmem S3x512x2048 .bf16) (j : Fin 3) (i : Fin 8) : Memref sig .tc .vmem S64x2048 .bf16 :=
  (m.slice (rZ j i) (fun _ => rfl)).squeeze S64x2048 squeezes_S1x64x2048_S64x2048
abbrev aP (w : WdOff) : Memref sig .tc .vmem S64x2048 .bf16 :=
  (aM.slice w.r (fun _ => rfl)).squeeze S64x2048 squeezes_S1x64x2048_S64x2048
abbrev xP (w : XOff) : Memref sig .tc .hbm S512x2048 .f32 :=
  (xM.slice (Rect.unit (s := S1x8192x2048) w.o S1x512x2048.size w.inb) (fun _ => rfl)).squeeze S512x2048 squeezes_S1x512x2048_S512x2048
abbrev oQ (k : Fin 4) : Memref sig .tc .vmem S512x2048 .f32 := oM.slice (rQ k) (fun _ => rfl)

/-! ## The semaphores -/

/-- Entry `(j, i)` of a 3 × 8 array of DMA semaphores. -/
abbrev sem2 (a : DmaSems sig S3x8) (j : Fin 3) (i : Fin 8) : DmaSem sig :=
  ((a.slice (Rect.unit (s := S3x8) ![j.1, i.1] S1x1.size (inbS j i))).squeeze S_ squeezes_S1x1_S_).sem
abbrev zs (j : Fin 3) (i : Fin 8) : DmaSem sig := sem2 cc0_scratch3 j i
abbrev zr (j : Fin 3) (i : Fin 8) : DmaSem sig := sem2 cc0_scratch4 j i
abbrev xs (j : Fin 3) (i : Fin 8) : DmaSem sig := sem2 cc0_scratch5 j i
abbrev xr (j : Fin 3) (i : Fin 8) : DmaSem sig := sem2 cc0_scratch6 j i
abbrev cpS (k : Fin 4) : DmaSem sig :=
  ((cc0_scratch7.slice (Rect.unit (s := S4) ![k.1] S1.size (inbC k))).squeeze S_ squeezes_S1_S_).sem
/-- The barrier's semaphore and the closing exchange's. -/
abbrev barS : Sem sig := (SemArray.scalar (sig.barrier 0 rfl) : Sems sig S_).sem
abbrev finS : Sem sig := (cc0_scoped0).sem

/-! ## The values stored -/

/-- 64 rows of the argument, rounded to the scratch's format. -/
def truncP (v : Vec F S64x2048 .f32) : FVec F S1x64x2048 .bf16 :=
  shapeCast S1x64x2048 (truncf .bf16 (shapeCast S64x2048 v shapeCasts_S64x2048_S64x2048) bitsLt_bf16_f32) shapeCasts_S64x2048_S1x64x2048

/-- 64 rows of scratch widened. -/
def wide (v : Vec F S1x64x2048 .bf16) : FVec F S64x2048 .f32 :=
  extf .f32 (shapeCast S64x2048 v shapeCasts_S1x64x2048_S64x2048) bitsLt_bf16_f32

/-- The sum of a device's own rows and the rows of its three peers along z, rounded. -/
def sumP (v : Vec F S64x2048 .f32) (a b d : Vec F S1x64x2048 .bf16) : FVec F S1x64x2048 .bf16 :=
  shapeCast S1x64x2048 (truncf .bf16
    (addf (addf (addf (shapeCast S64x2048 v shapeCasts_S64x2048_S64x2048) (wide a)) (wide b)) (wide d)) bitsLt_bf16_f32)
    shapeCasts_S64x2048_S1x64x2048

/-- The scale as one row. -/
def scaleRow (v : Vec F S2048 .f32) : FVec F S1x2048 .f32 :=
  shapeCast S1x2048 (shapeCast S2048 v shapeCasts_S2048_S2048) shapeCasts_S2048_S1x2048

/-- The normalised rows: each row over the root of its mean square plus a constant, times the scale. -/
def normP (g : FVec F S1x2048 .f32) (v : Vec F S1x64x2048 .bf16) : FVec F S64x2048 .f32 :=
  let w : FVec F S64x2048 .f32 := wide v
  let s : FVec F S64x1 .f32 := shapeCast S64x1
    (multiReduction .add [1] S64 (mulf w w) 0x00000000#32 reduces_S64x2048_S64 (.inl rfl) rfl) shapeCasts_S64_S64x1
  let t : FVec F S64x1 .f32 := sqrt (addf (divf s (broadcast S64x1 (Scalar.ofBits .f32 0x45000000#32)))
    (broadcast S64x1 (Scalar.ofBits .f32 0x358637BD#32)))
  mulf (divf w (broadcastTo S64x2048 t broadcasts_S64x1_S64x2048)) (broadcastTo S64x2048 g broadcasts_S1x2048_S64x2048)

/-! ## The blocks -/

/-- Start the copy of 512 rows of the argument into quarter `k`. -/
def cpB (k : Fin 4) (w : XOff) (K : Prog (TpuEff nD τ sig (Elt F) Λ₀ .tc) PUnit) : Prog (TpuEff nD τ sig (Elt F) Λ₀ .tc) PUnit :=
  .op (.enqueueDma (xP w) (.here (oQ k)) (.dma (cpS k)) ((View.wordExact_bits rfl).reshape _ _) (View.wordExact_bits rfl)
    ⟨Or.inl rfl, trivial⟩) fun _ => K

/-- Wait for that copy. -/
def cpW (k : Fin 4) (w : XOff) (K : Prog (TpuEff nD τ sig (Elt F) Λ₀ .tc) PUnit) : Prog (TpuEff nD τ sig (Elt F) Λ₀ .tc) PUnit :=
  .op (.waitDma2 (cpS k) (xP w) (oQ k) ((View.wordExact_bits rfl).reshape _ _) (View.wordExact_bits rfl)) fun _ => K

/-- Signal a device. -/
def sg (s : Sem sig) (d : Dev nD) (K : Prog (TpuEff nD τ sig (Elt F) Λ₀ .tc) PUnit) : Prog (TpuEff nD τ sig (Elt F) Λ₀ .tc) PUnit := .op (.semSignal (d, .tc) s (1#32).toInt) fun _ => K

/-- Wait for six signals. -/
def sw (s : Sem sig) (K : Prog (TpuEff nD τ sig (Elt F) Λ₀ .tc) PUnit) : Prog (TpuEff nD τ sig (Elt F) Λ₀ .tc) PUnit := .op (.semWait s (6#32).toInt) fun _ => K

/-- Round piece `i` of quarter `j` into slab `j` of the send buffer. -/
def stZ (j : Fin 3) (i : Fin 8) (K : Prog (TpuEff nD τ sig (Elt F) Λ₀ .tc) PUnit) : Prog (TpuEff nD τ sig (Elt F) Λ₀ .tc) PUnit :=
  .op (.load oM (rO (Fin.castLE (by decide) j) i).toLoadRect (View.loadsAt_vmem h_S64x2048)) fun v =>
  .op (.load sM (rZ j i).toLoadRect (View.loadsAt_vmem h_S1x64x2048)) fun _ =>
  .op (.store sM (rZ j i) (truncP v) Finset.univ
    (View.stores_vmem h_S1x64x2048 ((Memref.isWhole_whole _).storeExact_slice rfl _ (pkZ j i)) (fun _ => rfl)) (.inl rfl)) fun _ => K

/-- Send that piece to a peer. -/
def sdZ (j : Fin 3) (i : Fin 8) (d : Dev nD) (K : Prog (TpuEff nD τ sig (Elt F) Λ₀ .tc) PUnit) : Prog (TpuEff nD τ sig (Elt F) Λ₀ .tc) PUnit :=
  .op (.enqueueDma (zP sM j i) (.remote (Dev.tc d) (zP rM j i) (.dma (zs j i))) (.dma (zr j i))
    (((Memref.isWhole_whole _).wordExact_slice rfl _ (wwZ j i)).reshape _ _)
    (((Memref.isWhole_whole _).wordExact_slice rfl _ (wwZ j i)).reshape _ _) ⟨⟨rfl, Or.inl rfl⟩, trivial⟩) fun _ => K

/-- Piece `i` of the three slabs rounded, then sent to the three peers. -/
def startZ (i : Fin 8) (d0 d1 d2 : Dev nD) (K : Prog (TpuEff nD τ sig (Elt F) Λ₀ .tc) PUnit) : Prog (TpuEff nD τ sig (Elt F) Λ₀ .tc) PUnit :=
  stZ 0 i <| stZ 1 i <| stZ 2 i <| sdZ 0 i d0 <| sdZ 1 i d1 <| sdZ 2 i d2 K

/-- Wait for a piece to have left, and for the peer's to have come. -/
def wtZ (j : Fin 3) (i : Fin 8) (K : Prog (TpuEff nD τ sig (Elt F) Λ₀ .tc) PUnit) : Prog (TpuEff nD τ sig (Elt F) Λ₀ .tc) PUnit :=
  .op (.waitDma2 (zs j i) (zP rM j i) (zP sM j i)
    (((Memref.isWhole_whole _).wordExact_slice rfl _ (wwZ j i)).reshape _ _)
    (((Memref.isWhole_whole _).wordExact_slice rfl _ (wwZ j i)).reshape _ _)) fun _ =>
  .op (.waitDma2 (zr j i) (zP sM j i) (zP rM j i)
    (((Memref.isWhole_whole _).wordExact_slice rfl _ (wwZ j i)).reshape _ _)
    (((Memref.isWhole_whole _).wordExact_slice rfl _ (wwZ j i)).reshape _ _)) fun _ => K

def waitZ (i : Fin 8) (K : Prog (TpuEff nD τ sig (Elt F) Λ₀ .tc) PUnit) : Prog (TpuEff nD τ sig (Elt F) Λ₀ .tc) PUnit := wtZ 0 i <| wtZ 1 i <| wtZ 2 i K

/-- Add piece `i` of the three peers to the device's own and store it among the gathered sums. -/
def sumB (i : Fin 8) (w : PkOff) (K : Prog (TpuEff nD τ sig (Elt F) Λ₀ .tc) PUnit) : Prog (TpuEff nD τ sig (Elt F) Λ₀ .tc) PUnit :=
  .op (.load oM (rO 3 i).toLoadRect (View.loadsAt_vmem h_S64x2048)) fun v =>
  .op (.load rM (rZ 0 i).toLoadRect (View.loadsAt_vmem h_S1x64x2048)) fun a =>
  .op (.load rM (rZ 1 i).toLoadRect (View.loadsAt_vmem h_S1x64x2048)) fun b =>
  .op (.load rM (rZ 2 i).toLoadRect (View.loadsAt_vmem h_S1x64x2048)) fun d =>
  .op (.load aM w.r.toLoadRect (View.loadsAt_vmem h_S1x64x2048)) fun _ =>
  .op (.store aM w.r (sumP v a b d) Finset.univ
    (View.stores_vmem h_S1x64x2048 ((Memref.isWhole_whole _).storeExact_slice rfl _ w.pk) (fun _ => rfl)) (.inl rfl)) fun _ => K

/-- Send that piece to peer `j` in the plane. -/
def sdX (j : Fin 3) (i : Fin 8) (w : WdOff) (d : Dev nD) (K : Prog (TpuEff nD τ sig (Elt F) Λ₀ .tc) PUnit) : Prog (TpuEff nD τ sig (Elt F) Λ₀ .tc) PUnit :=
  .op (.enqueueDma (aP w) (.remote (Dev.tc d) (aP w) (.dma (xs j i))) (.dma (xr j i))
    (((Memref.isWhole_whole _).wordExact_slice rfl _ w.ww).reshape _ _)
    (((Memref.isWhole_whole _).wordExact_slice rfl _ w.ww).reshape _ _) ⟨⟨rfl, Or.inl rfl⟩, trivial⟩) fun _ => K

def sendX (i : Fin 8) (w : WdOff) (d0 d1 d2 : Dev nD) (K : Prog (TpuEff nD τ sig (Elt F) Λ₀ .tc) PUnit) : Prog (TpuEff nD τ sig (Elt F) Λ₀ .tc) PUnit :=
  sdX 0 i w d0 <| sdX 1 i w d1 <| sdX 2 i w d2 K

/-- Wait for a piece to have left for peer `j` in the plane, and for that peer's to have come. -/
def wtX (j : Fin 3) (i : Fin 8) (w : WdOff) (K : Prog (TpuEff nD τ sig (Elt F) Λ₀ .tc) PUnit) : Prog (TpuEff nD τ sig (Elt F) Λ₀ .tc) PUnit :=
  .op (.waitDma2 (xs j i) (aP w) (aP w)
    (((Memref.isWhole_whole _).wordExact_slice rfl _ w.ww).reshape _ _)
    (((Memref.isWhole_whole _).wordExact_slice rfl _ w.ww).reshape _ _)) fun _ =>
  .op (.waitDma2 (xr j i) (aP w) (aP w)
    (((Memref.isWhole_whole _).wordExact_slice rfl _ w.ww).reshape _ _)
    (((Memref.isWhole_whole _).wordExact_slice rfl _ w.ww).reshape _ _)) fun _ => K

def waitX (i : Fin 8) (w : WdOff) (K : Prog (TpuEff nD τ sig (Elt F) Λ₀ .tc) PUnit) : Prog (TpuEff nD τ sig (Elt F) Λ₀ .tc) PUnit := wtX 0 i w <| wtX 1 i w <| wtX 2 i w K

/-- Normalise piece `i` of slab `q` into quarter `q` of the result block. -/
def nmQ (g : FVec F S1x2048 .f32) (q : Fin 4) (i : Fin 8) (K : Prog (TpuEff nD τ sig (Elt F) Λ₀ .tc) PUnit) : Prog (TpuEff nD τ sig (Elt F) Λ₀ .tc) PUnit :=
  .op (.load aM (rA q i).toLoadRect (View.loadsAt_vmem h_S1x64x2048)) fun v =>
  .op (.load oM (rO q i).toLoadRect (View.loadsAt_vmem h_S64x2048)) fun _ =>
  .op (.store oM (rO q i) (normP g v) Finset.univ (View.stores_vmem_bits_univ h_S64x2048 rfl) (.inl rfl)) fun _ => K

def norm (g : FVec F S1x2048 .f32) (i : Fin 8) (K : Prog (TpuEff nD τ sig (Elt F) Λ₀ .tc) PUnit) : Prog (TpuEff nD τ sig (Elt F) Λ₀ .tc) PUnit := nmQ g 0 i <| nmQ g 1 i <| nmQ g 2 i <| nmQ g 3 i K

/-- The three signals to the peers along z and the three to those in the plane. -/
def sig6 (s : Sem sig) (d0 d1 d2 e0 e1 e2 : Dev nD) (K : Prog (TpuEff nD τ sig (Elt F) Λ₀ .tc) PUnit) : Prog (TpuEff nD τ sig (Elt F) Λ₀ .tc) PUnit :=
  sg s d0 <| sg s d1 <| sg s d2 <| sg s e0 <| sg s e1 <| sg s e2 K

/-- One round of the exchange along z: the next piece is started before this one is summed and sent on. -/
def step (i i' : Fin 8) (d0 d1 d2 : Dev nD) (p : PkOff) (w : WdOff) (e0 e1 e2 : Dev nD) (K : Prog (TpuEff nD τ sig (Elt F) Λ₀ .tc) PUnit) : Prog (TpuEff nD τ sig (Elt F) Λ₀ .tc) PUnit :=
  waitZ i <| startZ i' d0 d1 d2 <| sumB i p <| sendX i w e0 e1 e2 K

/-- The last round starts no piece. -/
def stepL (i : Fin 8) (p : PkOff) (w : WdOff) (e0 e1 e2 : Dev nD) (K : Prog (TpuEff nD τ sig (Elt F) Λ₀ .tc) PUnit) : Prog (TpuEff nD τ sig (Elt F) Λ₀ .tc) PUnit :=
  waitZ i <| sumB i p <| sendX i w e0 e1 e2 K

def fin (i : Fin 8) (w : WdOff) (g : FVec F S1x2048 .f32) (K : Prog (TpuEff nD τ sig (Elt F) Λ₀ .tc) PUnit) : Prog (TpuEff nD τ sig (Elt F) Λ₀ .tc) PUnit := waitX i w <| norm g i K

/-! ## What depends on the device -/

/-- The devices that the body names, in the order it names them. -/
def devL (c : Dev nD) : List (Dev nD) :=
  [⟨k0_dev1 c, k0_dev1_lt c⟩, ⟨k0_dev2 c, k0_dev2_lt c⟩, ⟨k0_dev3 c, k0_dev3_lt c⟩,
   ⟨k0_dev4 c, k0_dev4_lt c⟩, ⟨k0_dev5 c, k0_dev5_lt c⟩, ⟨k0_dev6 c, k0_dev6_lt c⟩,
   ⟨k0_dev7 c, k0_dev7_lt c⟩, ⟨k0_dev8 c, k0_dev8_lt c⟩, ⟨k0_dev9 c, k0_dev9_lt c⟩,
   ⟨k0_dev10 c, k0_dev10_lt c⟩, ⟨k0_dev11 c, k0_dev11_lt c⟩, ⟨k0_dev12 c, k0_dev12_lt c⟩,
   ⟨k0_dev13 c, k0_dev13_lt c⟩, ⟨k0_dev14 c, k0_dev14_lt c⟩, ⟨k0_dev15 c, k0_dev15_lt c⟩,
   ⟨k0_dev16 c, k0_dev16_lt c⟩, ⟨k0_dev17 c, k0_dev17_lt c⟩, ⟨k0_dev18 c, k0_dev18_lt c⟩,
   ⟨k0_dev19 c, k0_dev19_lt c⟩, ⟨k0_dev20 c, k0_dev20_lt c⟩, ⟨k0_dev21 c, k0_dev21_lt c⟩,
   ⟨k0_dev22 c, k0_dev22_lt c⟩, ⟨k0_dev23 c, k0_dev23_lt c⟩, ⟨k0_dev24 c, k0_dev24_lt c⟩,
   ⟨k0_dev25 c, k0_dev25_lt c⟩, ⟨k0_dev26 c, k0_dev26_lt c⟩, ⟨k0_dev27 c, k0_dev27_lt c⟩,
   ⟨k0_dev28 c, k0_dev28_lt c⟩, ⟨k0_dev29 c, k0_dev29_lt c⟩, ⟨k0_dev30 c, k0_dev30_lt c⟩,
   ⟨k0_dev31 c, k0_dev31_lt c⟩, ⟨k0_dev32 c, k0_dev32_lt c⟩, ⟨k0_dev33 c, k0_dev33_lt c⟩,
   ⟨k0_dev34 c, k0_dev34_lt c⟩, ⟨k0_dev35 c, k0_dev35_lt c⟩, ⟨k0_dev36 c, k0_dev36_lt c⟩,
   ⟨k0_dev37 c, k0_dev37_lt c⟩, ⟨k0_dev38 c, k0_dev38_lt c⟩, ⟨k0_dev39 c, k0_dev39_lt c⟩,
   ⟨k0_dev40 c, k0_dev40_lt c⟩, ⟨k0_dev41 c, k0_dev41_lt c⟩, ⟨k0_dev42 c, k0_dev42_lt c⟩,
   ⟨k0_dev43 c, k0_dev43_lt c⟩, ⟨k0_dev44 c, k0_dev44_lt c⟩, ⟨k0_dev45 c, k0_dev45_lt c⟩,
   ⟨k0_dev46 c, k0_dev46_lt c⟩, ⟨k0_dev47 c, k0_dev47_lt c⟩, ⟨k0_dev48 c, k0_dev48_lt c⟩,
   ⟨k0_dev49 c, k0_dev49_lt c⟩, ⟨k0_dev50 c, k0_dev50_lt c⟩, ⟨k0_dev51 c, k0_dev51_lt c⟩,
   ⟨k0_dev52 c, k0_dev52_lt c⟩, ⟨k0_dev53 c, k0_dev53_lt c⟩, ⟨k0_dev54 c, k0_dev54_lt c⟩,
   ⟨k0_dev55 c, k0_dev55_lt c⟩, ⟨k0_dev56 c, k0_dev56_lt c⟩, ⟨k0_dev57 c, k0_dev57_lt c⟩,
   ⟨k0_dev58 c, k0_dev58_lt c⟩, ⟨k0_dev59 c, k0_dev59_lt c⟩, ⟨k0_dev60 c, k0_dev60_lt c⟩]

/-- The `n`-th of them. -/
abbrev dv (c : Dev nD) (n : Nat) : Dev nD := (devL c).getD n c

/-- The offsets of the stores and of the transfers of piece `i` among the gathered sums. -/
def pko (c : Dev nD) : Fin 8 → PkOff :=
  ![⟨k0_off3 c, k0_off3_inb c, k0_off3_packedbf16 c⟩,
    ⟨k0_off5 c, k0_off5_inb c, k0_off5_packedbf16 c⟩,
    ⟨k0_off7 c, k0_off7_inb c, k0_off7_packedbf16 c⟩,
    ⟨k0_off9 c, k0_off9_inb c, k0_off9_packedbf16 c⟩,
    ⟨k0_off11 c, k0_off11_inb c, k0_off11_packedbf16 c⟩,
    ⟨k0_off13 c, k0_off13_inb c, k0_off13_packedbf16 c⟩,
    ⟨k0_off15 c, k0_off15_inb c, k0_off15_packedbf16 c⟩,
    ⟨k0_off17 c, k0_off17_inb c, k0_off17_packedbf16 c⟩]
def wdo (c : Dev nD) : Fin 8 → WdOff :=
  ![⟨k0_off4 c, k0_off4_inb c, k0_off4_wordsbf16 c⟩,
    ⟨k0_off6 c, k0_off6_inb c, k0_off6_wordsbf16 c⟩,
    ⟨k0_off8 c, k0_off8_inb c, k0_off8_wordsbf16 c⟩,
    ⟨k0_off10 c, k0_off10_inb c, k0_off10_wordsbf16 c⟩,
    ⟨k0_off12 c, k0_off12_inb c, k0_off12_wordsbf16 c⟩,
    ⟨k0_off14 c, k0_off14_inb c, k0_off14_wordsbf16 c⟩,
    ⟨k0_off16 c, k0_off16_inb c, k0_off16_wordsbf16 c⟩,
    ⟨k0_off18 c, k0_off18_inb c, k0_off18_wordsbf16 c⟩]
/-- The offsets of the four copies of the argument. -/
def xof (c : Dev nD) : Fin 4 → XOff :=
  ![⟨k0_off1 c 1#32, k0_off1_inb c 0⟩, ⟨k0_off1 c 2#32, k0_off1_inb c 1⟩, ⟨k0_off1 c 3#32, k0_off1_inb c 2⟩,
    ⟨k0_off2 c, k0_off2_inb c⟩]

/-- The body after the device is known: the copies and the opening barrier, -/
def openB (c : Dev nD) (K : Prog (TpuEff nD τ sig (Elt F) Λ₀ .tc) PUnit) : Prog (TpuEff nD τ sig (Elt F) Λ₀ .tc) PUnit :=
  cpB 0 (xof c 0) <| cpB 1 (xof c 1) <| cpB 2 (xof c 2) <| cpB 3 (xof c 3) <|
  sig6 barS (dv c 0) (dv c 1) (dv c 2) (dv c 3) (dv c 4) (dv c 5) <| sw barS <|
  cpW 0 (xof c 0) <| cpW 1 (xof c 1) <| cpW 2 (xof c 2) <| cpW 3 (xof c 3) K

/-- the exchange along z with the sends in the plane, -/
def midB (c : Dev nD) (K : Prog (TpuEff nD τ sig (Elt F) Λ₀ .tc) PUnit) : Prog (TpuEff nD τ sig (Elt F) Λ₀ .tc) PUnit :=
  startZ 0 (dv c 6) (dv c 7) (dv c 8) <|
  step 0 1 (dv c 9) (dv c 10) (dv c 11) (pko c 0) (wdo c 0) (dv c 12) (dv c 13) (dv c 14) <|
  step 1 2 (dv c 15) (dv c 16) (dv c 17) (pko c 1) (wdo c 1) (dv c 18) (dv c 19) (dv c 20) <|
  step 2 3 (dv c 21) (dv c 22) (dv c 23) (pko c 2) (wdo c 2) (dv c 24) (dv c 25) (dv c 26) <|
  step 3 4 (dv c 27) (dv c 28) (dv c 29) (pko c 3) (wdo c 3) (dv c 30) (dv c 31) (dv c 32) <|
  step 4 5 (dv c 33) (dv c 34) (dv c 35) (pko c 4) (wdo c 4) (dv c 36) (dv c 37) (dv c 38) <|
  step 5 6 (dv c 39) (dv c 40) (dv c 41) (pko c 5) (wdo c 5) (dv c 42) (dv c 43) (dv c 44) <|
  step 6 7 (dv c 45) (dv c 46) (dv c 47) (pko c 6) (wdo c 6) (dv c 48) (dv c 49) (dv c 50) <|
  stepL 7 (pko c 7) (wdo c 7) (dv c 51) (dv c 52) (dv c 53) K

/-- the normalisation, piece by piece, -/
def endB (c : Dev nD) (K : Prog (TpuEff nD τ sig (Elt F) Λ₀ .tc) PUnit) : Prog (TpuEff nD τ sig (Elt F) Λ₀ .tc) PUnit :=
  .op (.load gM (Rect.unit (s := S2048) ![0] S2048.size inb_S2048_S2048_0).toLoadRect (View.loadsAt_vmem h_S2048)) fun g =>
  fin 0 (wdo c 0) (scaleRow g) <|
  fin 1 (wdo c 1) (scaleRow g) <|
  fin 2 (wdo c 2) (scaleRow g) <|
  fin 3 (wdo c 3) (scaleRow g) <|
  fin 4 (wdo c 4) (scaleRow g) <|
  fin 5 (wdo c 5) (scaleRow g) <|
  fin 6 (wdo c 6) (scaleRow g) <|
  fin 7 (wdo c 7) (scaleRow g) K

/-- and the closing exchange. -/
def prog (c : Dev nD) : Prog (TpuEff nD τ sig (Elt F) Λ₀ .tc) PUnit :=
  openB c <| midB c <| endB c <|
  sig6 finS (dv c 54) (dv c 55) (dv c 56) (dv c 57) (dv c 58) (dv c 59) <| sw finS <| .ret ⟨⟩

set_option maxRecDepth 65536 in
/-- The printed body is that program. -/
theorem body_eq (t : Fin cfg0.N) : bodyAt0 (F := F) t = .op .deviceId prog := by
  have h0 : win0_0.stage (cfg0.slots t 0) = gM := rfl
  have h1 : win0_1.stage (cfg0.slots t 1) = oM := rfl
  show cc0_body xM _ gM _ oM _ sM _ rM _ aM _ _ _ _ _ _ _ = _
  chain_rfl

end Cert.KernelIdeal.Rms

end
-- ==== Proof.Ideal.Mesh.lean ====
/- The 4 × 4 mesh as the kernel walks it: device `c` sits at height `c % 4` of column `c / 4`. Its peers along z, its
   peers in the plane, the order in which the body names them, the offsets it computes from its own number, and the cells
   (semaphores) of the protocol. -/
module

public import proofs.«01_k».proof.Proof.Ideal.Prog

@[expose] public section

set_option backward.proofsInPublic true

noncomputable section

namespace Cert.KernelIdeal.Rms

open Cert.KernelIdeal Cert.KernelIdeal.Gen
open Idealize.ShloMosaic Idealize.ShloMosaic.TcCoe

/-! ## Peers -/

theorem dev_lt (c : Dev nD) : c.val < 16 := c.isLt
theorem dma_lt (n : DmaSem sig) : n.val < 102 := n.isLt

/-- The peer `j + 1` steps up the column (cyclically). -/
def up (j : Fin 3) (c : Dev nD) : Dev nD :=
  ⟨c.val / 4 * 4 + (c.val + j.val + 1) % 4, by have := dev_lt c; show _ < 16; omega⟩
/-- The peer `j + 1` steps down the column: the device whose peer `j` up is this one. -/
def dn (j : Fin 3) (c : Dev nD) : Dev nD :=
  ⟨c.val / 4 * 4 + (c.val + 3 - j.val) % 4, by have := dev_lt c; show _ < 16; omega⟩
/-- The column of the peer `d` in the plane: the other x, the other y, both. -/
def flipN (d : Fin 3) (q : Fin 4) : Fin 4 :=
  match d with
  | 0 => ⟨(q.val + 2) % 4, Nat.mod_lt _ (by decide)⟩
  | 1 => ⟨q.val / 2 * 2 + (q.val + 1) % 2, by have := q.isLt; omega⟩
  | 2 => ⟨3 - q.val, by omega⟩
/-- The column a device sits in. -/
def col (c : Dev nD) : Fin 4 := ⟨c.val / 4, by have := dev_lt c; omega⟩
/-- The device at this one's height in column `q`. -/
def inCol (c : Dev nD) (q : Fin 4) : Dev nD := ⟨q.val * 4 + c.val % 4, by have := q.isLt; show _ < 16; omega⟩
/-- The peer `d` in the plane. -/
def pl (d : Fin 3) (c : Dev nD) : Dev nD := inCol c (flipN d (col c))
/-- The other way round: peer `j` up is peer `opp j` down. -/
def opp (j : Fin 3) : Fin 3 := ⟨2 - j.val, by omega⟩

theorem opp_opp (j : Fin 3) : opp (opp j) = j := by revert j; decide
theorem up_dn (j : Fin 3) (c : Dev nD) : up j (dn j c) = c := by revert j c; decide +kernel
theorem dn_up (j : Fin 3) (c : Dev nD) : dn j (up j c) = c := by revert j c; decide +kernel
theorem up_opp (j : Fin 3) (c : Dev nD) : up (opp j) c = dn j c := by revert j c; decide +kernel
theorem dn_opp (j : Fin 3) (c : Dev nD) : dn (opp j) c = up j c := by revert j c; decide +kernel
theorem pl_pl (d : Fin 3) (c : Dev nD) : pl d (pl d c) = c := by revert d c; decide +kernel
theorem col_pl (d : Fin 3) (c : Dev nD) : col (pl d c) = flipN d (col c) := by revert d c; decide +kernel
theorem inCol_col (c : Dev nD) : inCol c (col c) = c := by revert c; decide +kernel
theorem inCol_pl (d : Fin 3) (c : Dev nD) (q : Fin 4) : inCol (pl d c) q = inCol c q := by revert d c q; decide +kernel
theorem flipN_flipN (d : Fin 3) (q : Fin 4) : flipN d (flipN d q) = q := by revert d q; decide +kernel
/-- A column and its three peers are all four columns. -/
theorem col_cases (q : Fin 4) : (Finset.univ : Finset (Fin 4)) = {q, flipN 0 q, flipN 1 q, flipN 2 q} := by
  revert q; decide +kernel
theorem col_nodup (q : Fin 4) : [q, flipN 0 q, flipN 1 q, flipN 2 q].Nodup := by revert q; decide +kernel

/-! ## The devices and offsets that the body computes -/

/-- The three peers up, the three in the plane. -/
def upL (c : Dev nD) : List (Dev nD) := [up 0 c, up 1 c, up 2 c]
def plL (c : Dev nD) : List (Dev nD) := [pl 0 c, pl 1 c, pl 2 c]

/-- The body names its peers up and in the plane for the opening barrier, its peers up for the first piece, then for each
    of seven rounds its peers up and in the plane, its peers in the plane for the last piece, and all six to close. -/
theorem devL_eq (c : Dev nD) : devL c = upL c ++ plL c ++ upL c ++ ((List.range 7).flatMap fun _ => upL c ++ plL c) ++ plL c ++ upL c ++ plL c := by
  revert c; decide +kernel

theorem dv_eq (c : Dev nD) (n : Nat) : dv c n =
    (upL c ++ plL c ++ upL c ++ ((List.range 7).flatMap fun _ => upL c ++ plL c) ++ plL c ++ upL c ++ plL c).getD n c := by
  unfold dv; rw [devL_eq]

theorem pko_eq (c : Dev nD) (i : Fin 8) : (pko c i).o = ![(col c).val, 64 * i.val, 0] := by
  revert i
  rw [Fin.forall_fin_succ]
  revert c; decide +kernel

theorem wdo_eq (c : Dev nD) (i : Fin 8) : (wdo c i).o = ![(col c).val, 64 * i.val, 0] := by
  revert c i; decide +kernel

/-- The height of the block that quarter `k` of device `c` belongs to: the peers' for `k < 3`, its own for the last. -/
def hgt (c : Dev nD) (k : Fin 4) : Fin 4 := ⟨(c.val + k.val + 1) % 4, Nat.mod_lt _ (by decide)⟩

theorem xof_eq (c : Dev nD) (k : Fin 4) : (xof c k).o = ![0, 2048 * (hgt c k).val + 512 * (col c).val, 0] := by
  revert c k; decide +kernel

/-! ## Cells -/

/-- The protocol's cells on one device: the barrier's and the closing exchange's; the four copies' of the argument; and
    one per kind, piece and peer for the transfers — kinds 0 and 1 the sends and the receipts along z, 2 and 3 those in
    the plane. -/
abbrev Cell : Type := Bool ⊕ Fin 4 ⊕ (Fin 4 × Fin 8 × Fin 3)

abbrev barK : Cell := .inl false
abbrev finK : Cell := .inl true
abbrev cpK (k : Fin 4) : Cell := .inr (.inl k)
abbrev pcK (a : Fin 4) (i : Fin 8) (j : Fin 3) : Cell := .inr (.inr (a, i, j))

/-- The semaphore of a cell. -/
def cellSem : Cell → SemLoc sig
  | .inl false => .reg barS
  | .inl true => .reg finS
  | .inr (.inl k) => .dma (cpS k)
  | .inr (.inr (0, i, j)) => .dma (zs j i)
  | .inr (.inr (1, i, j)) => .dma (zr j i)
  | .inr (.inr (2, i, j)) => .dma (xs j i)
  | .inr (.inr (3, i, j)) => .dma (xr j i)

/-- Which cell a semaphore is, if any. -/
def cellOfSem : SemLoc sig → Option Cell
  | .reg s => if s = barS then some barK else if s = finS then some finK else none
  | .dma n => if h : n.val < 2 then none
    else if h' : n.val < 98 then
      some (pcK ⟨(n.val - 2) / 24, by omega⟩ ⟨(n.val - 2) % 8, Nat.mod_lt _ (by decide)⟩
        ⟨(n.val - 2) / 8 % 3, Nat.mod_lt _ (by decide)⟩)
    else some (cpK ⟨n.val - 98, by have := dma_lt n; omega⟩)

theorem cellOfSem_cellSem (k : Cell) : cellOfSem (cellSem k) = some k := by
  rcases k with b | k | ⟨a, i, j⟩
  · revert b; decide
  · revert k; decide
  · revert a i j; decide +kernel

theorem cellSem_inj {k k' : Cell} (h : cellSem k = cellSem k') : k = k' := by
  have := congrArg cellOfSem h
  rw [cellOfSem_cellSem, cellOfSem_cellSem] at this
  exact Option.some.inj this

/-- Only the barrier's semaphore outlives the call. -/
theorem scoped_cellSem (k : Cell) : (cellSem k).isScoped .tc = true ↔ k ≠ barK := by
  rcases k with b | k | ⟨a, i, j⟩
  · revert b; decide
  · revert k; decide
  · revert a i j; decide +kernel

/-- Cell `k` of device `c`. -/
def kcell (c : Dev nD) (k : Cell) : GSem nD τ sig := ((c : Thread nD τ), cellSem k)

theorem kcell_inj {c c' : Dev nD} {k k' : Cell} (h : kcell c k = kcell c' k') : c = c' ∧ k = k' := by
  unfold kcell at h
  have h1 := congrArg Prod.fst h
  exact ⟨congrArg Prod.fst h1, cellSem_inj (congrArg Prod.snd h)⟩

end Cert.KernelIdeal.Rms

end
-- ==== Proof.Ideal.Contents.lean ====
/- What the buffers hold. A buffer is cut into pieces of 64 rows; the contents are given piece by piece, and a buffer's
   contents are the pieces put together. The last part names what each device computes: its rounded rows, what it
   receives, its sums, the gathered sums and its result. -/
module

public import Idealize.ShloMosaic.Lib.Pointwise.Index
public import proofs.«01_k».proof.Proof.Ideal.Mesh
public import Idealize.ShloMosaic.Lib.ViewIndex

@[expose] public section

set_option backward.proofsInPublic true

noncomputable section

namespace Cert.KernelIdeal.Rms

open Cert.KernelIdeal Cert.KernelIdeal.Gen
open Idealize.ShloMosaic Idealize.ShloMosaic.TcCoe

/-! ## Indices -/

/-- Two multi-indices of rank two are equal where their coordinates are. -/
theorem ix2_ext {d : Fin 2 → Nat} {x y : (⟨2, d⟩ : Shape).Idx} (h0 : (x 0).val = (y 0).val) (h1 : (x 1).val = (y 1).val) : x = y :=
  funext fun a => match a with
    | ⟨0, _⟩ => Fin.ext h0
    | ⟨1, _⟩ => Fin.ext h1

/-! ## Pieces put together -/

variable {α : Type}

/-- A buffer of three slabs from its pieces. -/
def asmZ (P : Fin 3 → Fin 8 → S1x64x2048.Idx → α) : S3x512x2048.Idx → α := fun y =>
  P (y 0) ⟨(y 1).val / 64, by have : (y 1).val < 512 := (y 1).isLt; omega⟩
    (ix3 (n0 := 1) (n1 := 64) (n2 := 2048) ⟨0, Nat.one_pos⟩ ⟨(y 1).val % 64, Nat.mod_lt _ (by decide)⟩ (y 2))
/-- A buffer of four slabs from its pieces. -/
def asmA (P : Fin 4 → Fin 8 → S1x64x2048.Idx → α) : S4x512x2048.Idx → α := fun y =>
  P (y 0) ⟨(y 1).val / 64, by have : (y 1).val < 512 := (y 1).isLt; omega⟩
    (ix3 (n0 := 1) (n1 := 64) (n2 := 2048) ⟨0, Nat.one_pos⟩ ⟨(y 1).val % 64, Nat.mod_lt _ (by decide)⟩ (y 2))
/-- The block of 2048 rows from its pieces, -/
def asmO (P : Fin 4 → Fin 8 → S64x2048.Idx → α) : S2048x2048.Idx → α := fun y =>
  P ⟨(y 0).val / 512, by have : (y 0).val < 2048 := (y 0).isLt; omega⟩ ⟨(y 0).val % 512 / 64, by omega⟩
    (ix2 (n0 := 64) (n1 := 2048) ⟨(y 0).val % 64, Nat.mod_lt _ (by decide)⟩ (y 1))
/-- and from its quarters. -/
def asmQ (P : Fin 4 → S512x2048.Idx → α) : S2048x2048.Idx → α := fun y =>
  P ⟨(y 0).val / 512, by have : (y 0).val < 2048 := (y 0).isLt; omega⟩
    (ix2 (n0 := 512) (n1 := 2048) ⟨(y 0).val % 512, Nat.mod_lt _ (by decide)⟩ (y 1))

theorem asmZ_emb (P : Fin 3 → Fin 8 → S1x64x2048.Idx → α) (j : Fin 3) (i : Fin 8) (x : S1x64x2048.Idx) :
    asmZ P ((rZ j i).emb x) = P j i x := by
  have h0 : ((rZ j i).emb x 0).val = j.val + 1 * (x 0).val := rfl
  have h1 : ((rZ j i).emb x 1).val = 64 * i.val + 1 * (x 1).val := rfl
  have h2 : ((rZ j i).emb x 2).val = 0 + 1 * (x 2).val := rfl
  have hx0 : (x 0).val < 1 := (x 0).isLt
  have hx1 : (x 1).val < 64 := (x 1).isLt
  unfold asmZ
  refine congr (congr (congrArg P (Fin.ext ?_)) (Fin.ext ?_)) (Shape.idx3_ext ?_ ?_ ?_)
  · omega
  · show ((rZ j i).emb x 1).val / 64 = i.val; omega
  · show 0 = (x 0).val; omega
  · show ((rZ j i).emb x 1).val % 64 = (x 1).val; omega
  · show ((rZ j i).emb x 2).val = (x 2).val; omega

theorem asmA_emb (P : Fin 4 → Fin 8 → S1x64x2048.Idx → α) (q : Fin 4) (i : Fin 8) (x : S1x64x2048.Idx) :
    asmA P ((rA q i).emb x) = P q i x := by
  have h0 : ((rA q i).emb x 0).val = q.val + 1 * (x 0).val := rfl
  have h1 : ((rA q i).emb x 1).val = 64 * i.val + 1 * (x 1).val := rfl
  have h2 : ((rA q i).emb x 2).val = 0 + 1 * (x 2).val := rfl
  have hx0 : (x 0).val < 1 := (x 0).isLt
  have hx1 : (x 1).val < 64 := (x 1).isLt
  unfold asmA
  refine congr (congr (congrArg P (Fin.ext ?_)) (Fin.ext ?_)) (Shape.idx3_ext ?_ ?_ ?_)
  · omega
  · show ((rA q i).emb x 1).val / 64 = i.val; omega
  · show 0 = (x 0).val; omega
  · show ((rA q i).emb x 1).val % 64 = (x 1).val; omega
  · show ((rA q i).emb x 2).val = (x 2).val; omega

theorem asmO_emb (P : Fin 4 → Fin 8 → S64x2048.Idx → α) (k : Fin 4) (i : Fin 8) (x : S64x2048.Idx) :
    asmO P ((rO k i).emb x) = P k i x := by
  have h0 : ((rO k i).emb x 0).val = 512 * k.val + 64 * i.val + 1 * (x 0).val := rfl
  have h1 : ((rO k i).emb x 1).val = 0 + 1 * (x 1).val := rfl
  have hx0 : (x 0).val < 64 := (x 0).isLt
  have hi := i.isLt
  unfold asmO
  refine congr (congr (congrArg P (Fin.ext ?_)) (Fin.ext ?_)) (ix2_ext ?_ ?_)
  · show ((rO k i).emb x 0).val / 512 = k.val; omega
  · show ((rO k i).emb x 0).val % 512 / 64 = i.val; omega
  · show ((rO k i).emb x 0).val % 64 = (x 0).val; omega
  · show ((rO k i).emb x 1).val = (x 1).val; omega

theorem asmQ_emb (P : Fin 4 → S512x2048.Idx → α) (k : Fin 4) (x : S512x2048.Idx) :
    asmQ P ((rQ k).emb x) = P k x := by
  have h0 : ((rQ k).emb x 0).val = 512 * k.val + 1 * (x 0).val := rfl
  have h1 : ((rQ k).emb x 1).val = 0 + 1 * (x 1).val := rfl
  have hx0 : (x 0).val < 512 := (x 0).isLt
  unfold asmQ
  refine congr (congrArg P (Fin.ext ?_)) (ix2_ext ?_ ?_)
  · show ((rQ k).emb x 0).val / 512 = k.val; omega
  · show ((rQ k).emb x 0).val % 512 = (x 0).val; omega
  · show ((rQ k).emb x 1).val = (x 1).val; omega

/-! ## The pieces cover each buffer, and no two meet -/

theorem exists_emb_of_mem {s : Shape} {r : Rect s} {y : s.Idx} (h : y ∈ r.set) : ∃ x, r.emb x = y := by
  rw [← r.map_emb_univ] at h
  obtain ⟨x, -, e⟩ := Finset.mem_map.mp h
  exact ⟨x, e⟩
theorem emb_mem {s : Shape} (r : Rect s) (x : r.shape.Idx) : r.emb x ∈ r.set := by
  rw [← r.map_emb_univ]; exact Finset.mem_map_of_mem _ (Finset.mem_univ x)

theorem mem_of_emb {s : Shape} {r : Rect s} {y : s.Idx} (x : r.shape.Idx) (h : y = r.emb x) : y ∈ r.set := h ▸ emb_mem r x

/-- A family of rectangles, each element of which knows its member, meets nowhere. -/
theorem disjoint_of_name {s : Shape} {B : Type} {r : B → Rect s} (nm : s.Idx → B) (h : ∀ b x, nm ((r b).emb x) = b) :
    ∀ b b', b ≠ b' → Disjoint (r b).set (r b').set := fun b b' hb =>
  Finset.disjoint_left.mpr fun y hy hy' => by
    obtain ⟨x, rfl⟩ := exists_emb_of_mem hy
    obtain ⟨x', e⟩ := exists_emb_of_mem hy'
    exact hb ((h b x).symm.trans ((congrArg nm e).symm.trans (h b' x')))

abbrev IZ (p : Fin 8 × Fin 3) : Finset S3x512x2048.Idx := (rZ p.2 p.1).set
abbrev IA (p : Fin 8 × Fin 4) : Finset S4x512x2048.Idx := (rA p.2 p.1).set
abbrev IQ (k : Fin 4) : Finset S2048x2048.Idx := (rQ k).set

theorem IZ_disjoint : ∀ p p' : Fin 8 × Fin 3, p ≠ p' → Disjoint (IZ p) (IZ p') :=
  disjoint_of_name (r := fun p : Fin 8 × Fin 3 => rZ p.2 p.1) (asmZ fun j i _ => (i, j)) fun p x => asmZ_emb (fun j i _ => (i, j)) p.2 p.1 x
theorem IA_disjoint : ∀ p p' : Fin 8 × Fin 4, p ≠ p' → Disjoint (IA p) (IA p') :=
  disjoint_of_name (r := fun p : Fin 8 × Fin 4 => rA p.2 p.1) (asmA fun j i _ => (i, j)) fun p x => asmA_emb (fun j i _ => (i, j)) p.2 p.1 x
theorem IQ_disjoint : ∀ k k' : Fin 4, k ≠ k' → Disjoint (IQ k) (IQ k') :=
  disjoint_of_name (r := rQ) (asmQ fun k _ => k) fun k x => asmQ_emb (fun k _ => k) k x

theorem IZ_cover : Finset.univ.biUnion IZ = Finset.univ := by
  refine Finset.eq_univ_iff_forall.mpr fun y => Finset.mem_biUnion.mpr ?_
  have h1 : (y 1).val < 512 := (y 1).isLt
  refine ⟨(⟨(y 1).val / 64, by omega⟩, y 0), Finset.mem_univ _, ?_⟩
  exact mem_of_emb (r := rZ (y 0) ⟨(y 1).val / 64, by omega⟩)
    (ix3 (n0 := 1) (n1 := 64) (n2 := 2048) ⟨0, Nat.one_pos⟩ ⟨(y 1).val % 64, Nat.mod_lt _ (by decide)⟩ (y 2))
    (Shape.idx3_ext (by show (y 0).val = (y 0).val + 1 * 0; omega) (by show (y 1).val = 64 * ((y 1).val / 64) + 1 * ((y 1).val % 64); omega)
      (by show (y 2).val = 0 + 1 * (y 2).val; omega))
theorem IA_cover : Finset.univ.biUnion IA = Finset.univ := by
  refine Finset.eq_univ_iff_forall.mpr fun y => Finset.mem_biUnion.mpr ?_
  have h1 : (y 1).val < 512 := (y 1).isLt
  refine ⟨(⟨(y 1).val / 64, by omega⟩, y 0), Finset.mem_univ _, ?_⟩
  exact mem_of_emb (r := rA (y 0) ⟨(y 1).val / 64, by omega⟩)
    (ix3 (n0 := 1) (n1 := 64) (n2 := 2048) ⟨0, Nat.one_pos⟩ ⟨(y 1).val % 64, Nat.mod_lt _ (by decide)⟩ (y 2))
    (Shape.idx3_ext (by show (y 0).val = (y 0).val + 1 * 0; omega) (by show (y 1).val = 64 * ((y 1).val / 64) + 1 * ((y 1).val % 64); omega)
      (by show (y 2).val = 0 + 1 * (y 2).val; omega))
/-- Every index of the block lies in one of its pieces, -/
theorem exists_rO (y : S2048x2048.Idx) : ∃ k i x, y = (rO k i).emb x := by
  have h0 : (y 0).val < 2048 := (y 0).isLt
  exact ⟨⟨(y 0).val / 512, by omega⟩, ⟨(y 0).val % 512 / 64, by omega⟩,
    ix2 (n0 := 64) (n1 := 2048) ⟨(y 0).val % 64, Nat.mod_lt _ (by decide)⟩ (y 1),
    ix2_ext (by show (y 0).val = 512 * ((y 0).val / 512) + 64 * ((y 0).val % 512 / 64) + 1 * ((y 0).val % 64); omega)
      (by show (y 1).val = 0 + 1 * (y 1).val; omega)⟩
/-- and in one of its quarters. -/
theorem IQ_cover : Finset.univ.biUnion IQ = Finset.univ := by
  refine Finset.eq_univ_iff_forall.mpr fun y => Finset.mem_biUnion.mpr ?_
  have h0 : (y 0).val < 2048 := (y 0).isLt
  refine ⟨⟨(y 0).val / 512, by omega⟩, Finset.mem_univ _, ?_⟩
  exact mem_of_emb (r := rQ ⟨(y 0).val / 512, by omega⟩)
    (ix2 (n0 := 512) (n1 := 2048) ⟨(y 0).val % 512, Nat.mod_lt _ (by decide)⟩ (y 1))
    (ix2_ext (by show (y 0).val = 512 * ((y 0).val / 512) + 1 * ((y 0).val % 512); omega) (by show (y 1).val = 0 + 1 * (y 1).val; omega))

/-! ## What each device computes -/

variable {F : FTy → Type} [FloatOps F] (m : (ℓ : Loc nD τ sig) → Buf (Elt F) ℓ)

/-- Device `c`'s part of the argument, and its scale. -/
def argX (c : Dev nD) : (main_arg0 : Ref sig .tc).ty.Contents (Elt F) := m ((c : Thread nD τ).loc main_arg0)
def argG (c : Dev nD) : (cc0_stg0_0 : Ref sig .tc).ty.Contents (Elt F) :=
  (win0_0.blk (0 : Fin 1)).view.read (Elt F) (m ((c : Thread nD τ).loc main_arg1))

/-- The rows that device `c` copies out of its argument: one quarter for each height, in the order of the copies. -/
def rowQ (c : Dev nD) (k : Fin 4) : S512x2048.Idx → Elt F .f32 := (xP (xof c k)).view.read (Elt F) (argX m c)
def rowsAt (c : Dev nD) : (cc0_stg1_0 : Ref sig .tc).ty.Contents (Elt F) := asmQ (rowQ m c)
/-- Piece `i` of quarter `k` of them. -/
def rowP (c : Dev nD) (k : Fin 4) (i : Fin 8) : S64x2048.Idx → Elt F .f32 := fun x => rowsAt m c ((rO k i).emb x)

/-- What device `c` sends up the column: its rows for the peer `j` up, rounded. -/
def sendP (c : Dev nD) (j : Fin 3) (i : Fin 8) : FVec F S1x64x2048 .bf16 := truncP (rowP m c (Fin.castLE (by decide) j) i)
def sendAt (c : Dev nD) : (cc0_scratch0 : Ref sig .tc).ty.Contents (Elt F) := asmZ (sendP m c)
/-- What it receives: slab `j` from the peer `j` down. -/
def recvP (c : Dev nD) (j : Fin 3) (i : Fin 8) : FVec F S1x64x2048 .bf16 := sendP m (dn j c) j i
def recvAt (c : Dev nD) : (cc0_scratch1 : Ref sig .tc).ty.Contents (Elt F) := asmZ (recvP m c)
/-- Piece `i` of the sum over the column of the rows that device `c` owns. -/
def sumOf (c : Dev nD) (i : Fin 8) : FVec F S1x64x2048 .bf16 :=
  sumP (rowP m c 3 i) (recvP m c 0 i) (recvP m c 1 i) (recvP m c 2 i)
/-- The sums gathered from the four columns at device `c`'s height. -/
def gathP (c : Dev nD) (q : Fin 4) (i : Fin 8) : FVec F S1x64x2048 .bf16 := sumOf m (inCol c q) i
def gathAt (c : Dev nD) : (cc0_scratch2 : Ref sig .tc).ty.Contents (Elt F) := asmA (gathP m c)
/-- Device `c`'s result: the gathered rows normalised. -/
def outP (c : Dev nD) (q : Fin 4) (i : Fin 8) : S64x2048.Idx → Elt F .f32 := normP (scaleRow (argG m c)) (gathP m c q i)
def outAt (c : Dev nD) : (cc0_stg1_0 : Ref sig .tc).ty.Contents (Elt F) := asmO (outP m c)

/-- What arrives in slab `j` of the peer `j` up is what was sent. -/
theorem recvP_up (c : Dev nD) (j : Fin 3) (i : Fin 8) : recvP m (up j c) j i = sendP m c j i := by
  unfold recvP; rw [dn_up]
/-- A device and its peer in the plane gather the same sums. -/
theorem gathP_pl (c : Dev nD) (d : Fin 3) (q : Fin 4) (i : Fin 8) : gathP m (pl d c) q i = gathP m c q i := by
  unfold gathP; rw [inCol_pl]
theorem gathP_col (c : Dev nD) (i : Fin 8) : gathP m c (col c) i = sumOf m c i := by
  unfold gathP; rw [inCol_col]

end Cert.KernelIdeal.Rms

end
-- ==== Proof.Ideal.Proto.lean ====
/- The protocol, cell by cell. Every cell has one round.

   * The barrier's cell of device `c` waits for six units, one from each peer. The peer `j` up the column hands over its
     slab `j` of the receive buffer, which `c` alone will write; the peer `d` in the plane hands over its slab of the
     gathered sums that belongs to `c`'s column.
   * A send cell is credited when a piece has left, and hands the piece back; a receive cell is credited when a piece has
     come, and hands over the piece WITH the contents the sender put there.
   * A copy's cell hands over a quarter of the block, holding the argument's rows, and the share of the argument it read.
   * The closing cell waits for six units and hands over nothing.

   A device waits for a cell only while everything it still owes lies at a higher level (`lvK`). -/
module

public import proofs.«01_k».proof.Proof.Ideal.Contents
public import proofs.«01_k».proof.Proof.Gen.KernelIdeal.Launch
public import Idealize.ShloMosaic.Lib.Rounds
public import Idealize.ShloMosaic.Lib.Rounds.Family
public import Idealize.ShloMosaic.Lib.Ring
public import Idealize.ShloMosaic.Lib.Ring.Trips
public import Idealize.ShloMosaic.Lib.Pipeline.Launch
public import Idealize.ShloMosaic.Lib.Tactic

@[expose] public section

set_option backward.proofsInPublic true

noncomputable section

namespace Cert.KernelIdeal.Rms

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's rounds and the protocol's, whose duties are named by a direction and a peer -/

/-- `(false, j)`: along z; `(true, d)`: in the plane. -/
abbrev Duty : Type := Bool × Fin 3
abbrev UB : Type := URounds (GSem nD τ sig) Duty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Pieces of memory -/

/-- Piece `i` of slab `j` of device `c`'s send buffer, of its receive buffer, of its gathered sums; quarter `k` of its
    block; the rows of its argument that copy `k` reads. -/
def ptS (c : Dev nD) (j : Fin 3) (i : Fin 8) (f : Buf (Elt F) ((c : Thread nD τ).loc cc0_scratch0)) : sProp 𝕄 :=
  ((c : Thread nD τ).loc cc0_scratch0) ↦[(rZ j i).set]{fullShare} f
def ptR (c : Dev nD) (j : Fin 3) (i : Fin 8) (f : Buf (Elt F) ((c : Thread nD τ).loc cc0_scratch1)) : sProp 𝕄 :=
  ((c : Thread nD τ).loc cc0_scratch1) ↦[(rZ j i).set]{fullShare} f
def ptA (c : Dev nD) (q : Fin 4) (i : Fin 8) (s : PosShare TreeShare) (f : Buf (Elt F) ((c : Thread nD τ).loc cc0_scratch2)) : sProp 𝕄 :=
  ((c : Thread nD τ).loc cc0_scratch2) ↦[(rA q i).set]{s} f
def ptQ (c : Dev nD) (k : Fin 4) (f : Buf (Elt F) ((c : Thread nD τ).loc cc0_stg1_0)) : sProp 𝕄 :=
  ((c : Thread nD τ).loc cc0_stg1_0) ↦[(rQ k).set]{fullShare} f
/-- The four shares in which the argument is read. -/
def sh4 (k : Fin 4) : PosShare TreeShare :=
  match k with
  | 0 => fullShare.left.left
  | 1 => fullShare.left.right
  | 2 => fullShare.right.left
  | 3 => fullShare.right.right
def ptX (c : Dev nD) (k : Fin 4) (f : Buf (Elt F) ((c : Thread nD τ).loc main_arg0)) : sProp 𝕄 :=
  ((c : Thread nD τ).loc main_arg0) ↦[(xP (xof c k)).view.set]{sh4 k} f

/-- Slab `j` of the receive buffer, and slab `q` of the gathered sums, holding anything. -/
def slabR (c : Dev nD) (j : Fin 3) : sProp 𝕄 := bigSep Finset.univ fun i : Fin 8 => iprop(∃ f, ptR c j i f)
def slabA (c : Dev nD) (q : Fin 4) : sProp 𝕄 := bigSep Finset.univ fun i : Fin 8 => iprop(∃ f, ptA c q i fullShare f)

instance (c : Dev nD) (j i f) : BI.Storable (upEmb : UEmb _ 𝕄) (ptS (F := F) c j i f) := by unfold ptS; infer_instance
instance (c : Dev nD) (j i f) : BI.Storable (upEmb : UEmb _ 𝕄) (ptR (F := F) c j i f) := by unfold ptR; infer_instance
instance (c : Dev nD) (q i s f) : BI.Storable (upEmb : UEmb _ 𝕄) (ptA (F := F) c q i s f) := by unfold ptA; infer_instance
instance (c : Dev nD) (k f) : BI.Storable (upEmb : UEmb _ 𝕄) (ptQ (F := F) c k f) := by unfold ptQ; infer_instance
instance (c : Dev nD) (k f) : BI.Storable (upEmb : UEmb _ 𝕄) (ptX (F := F) c k f) := by unfold ptX; infer_instance
instance (c : Dev nD) (j) : BI.Storable (upEmb : UEmb _ 𝕄) (slabR (F := F) c j) := by unfold slabR; infer_instance
instance (c : Dev nD) (q) : BI.Storable (upEmb : UEmb _ 𝕄) (slabA (F := F) c q) := by unfold slabA; infer_instance

/-! ## The schedule -/

/-- What a piece's transfer credits, and a quarter's copy. -/
@[irreducible] def Nz : ℕ := (zP rM 0 0).view.dmaCredit
@[irreducible] def Ncp : ℕ := (oQ 0).view.dmaCredit
theorem Nz_pos : 0 < Nz := by unfold Nz; exact View.dmaCredit_pos _ (by decide)
theorem Ncp_pos : 0 < Ncp := by unfold Ncp; exact View.dmaCredit_pos _ (by decide)
theorem credit_rM (j : Fin 3) (i : Fin 8) : (zP rM j i).view.dmaCredit = Nz := by unfold Nz; rfl
theorem credit_sM (j : Fin 3) (i : Fin 8) : (zP sM j i).view.dmaCredit = Nz := by unfold Nz; rfl
theorem credit_aM (w : WdOff) : (aP w).view.dmaCredit = Nz := by unfold Nz; rfl
theorem credit_oM (k : Fin 4) : (oQ k).view.dmaCredit = Ncp := by unfold Ncp; rfl

/-- The units of one duty of a cell. -/
def amt : Cell → ℕ
  | .inl _ => 1
  | .inr (.inl _) => Ncp
  | .inr (.inr _) => Nz

/-- The duties of a cell: the six peers', or one. -/
def dts : Cell → Finset Duty
  | .inl _ => Finset.univ
  | .inr _ => {(false, 0)}

/-- What a duty of cell `k` of device `c` hands over. -/
def pay (c : Dev nD) : Cell → Duty → sProp 𝕄
  | .inl false, (false, j) => slabR (up j c) j
  | .inl false, (true, d) => slabA (pl d c) (col c)
  | .inl true, _ => iprop(emp)
  | .inr (.inl k), _ => iprop(ptQ c k (rowsAt m c) ∗ ptX c k (argX m c))
  | .inr (.inr (0, i, j)), _ => ptS c j i (sendAt m c)
  | .inr (.inr (1, i, j)), _ => ptR c j i (recvAt m c)
  | .inr (.inr (2, i, j)), _ => ptA c (col c) i (Ring.shares3 fullShare j) (gathAt m c)
  | .inr (.inr (3, i, j)), _ => ptA c (col (pl j c)) i fullShare (gathAt m c)

theorem amt_pos (k : Cell) : 0 < amt k := by
  rcases k with b | k | p
  exacts [Nat.one_pos, Ncp_pos, Nz_pos]

instance pay_storable (c : Dev nD) (k : Cell) (d : Duty) : BI.Storable (upEmb : UEmb _ 𝕄) (pay m c k d) :=
  match k, d with
  | .inl false, (false, j) => inferInstanceAs (BI.Storable _ (slabR (up j c) j))
  | .inl false, (true, d) => inferInstanceAs (BI.Storable _ (slabA (pl d c) (col c)))
  | .inl true, _ => inferInstanceAs (BI.Storable _ iprop(emp))
  | .inr (.inl k), _ => inferInstanceAs (BI.Storable _ iprop(ptQ c k (rowsAt m c) ∗ ptX c k (argX m c)))
  | .inr (.inr (0, i, j)), _ => inferInstanceAs (BI.Storable _ (ptS c j i (sendAt m c)))
  | .inr (.inr (1, i, j)), _ => inferInstanceAs (BI.Storable _ (ptR c j i (recvAt m c)))
  | .inr (.inr (2, i, j)), _ => inferInstanceAs (BI.Storable _ (ptA c (col c) i (Ring.shares3 fullShare j) (gathAt m c)))
  | .inr (.inr (3, i, j)), _ => inferInstanceAs (BI.Storable _ (ptA c (col (pl j c)) i fullShare (gathAt m c)))

def rd : Rounds.Schedule (GSem nD τ sig) Duty 𝕄 where
  duties g r := if r = 0 ∧ g.1.2 = .tc then (match cellOfSem g.2 with | some k => dts k | none => ∅) else ∅
  unitless _ := False
  amount g _ _ := match cellOfSem g.2 with | some k => amt k | none => 1
  payload g _ d := match cellOfSem g.2 with | some k => pay m g.1.1 k d | none => iprop(emp)
  amount_pos g _ _ _ := by
    cases cellOfSem g.2 with
    | none => exact Nat.one_pos
    | some k => exact amt_pos k

instance rd_payload_storable (g : GSem nD τ sig) (r : ℕ) (d : Duty) :
    BI.Storable (upEmb : UEmb _ 𝕄) ((rd (F := F) m).payload g r d) := by
  show BI.Storable upEmb (match cellOfSem g.2 with | some k => pay m g.1.1 k d | none => iprop(emp))
  split <;> infer_instance

theorem rd_duties (c : Dev nD) (k : Cell) : (rd (F := F) m).duties (kcell c k) 0 = dts k := by
  dsimp only [rd]
  rw [if_pos ⟨rfl, rfl⟩]
  show (match cellOfSem (cellSem k) with | some k => dts k | none => ∅) = _
  rw [cellOfSem_cellSem]
theorem rd_later (g : GSem nD τ sig) (r : ℕ) (h : 1 ≤ r) : (rd (F := F) m).duties g r = ∅ := if_neg fun h' => by omega
theorem rd_amount (c : Dev nD) (k : Cell) (r : ℕ) (d : Duty) : (rd (F := F) m).amount (kcell c k) r d = amt k := by
  show (match cellOfSem (cellSem k) with | some k => amt k | none => 1) = _
  rw [cellOfSem_cellSem]
theorem rd_payload (c : Dev nD) (k : Cell) (r : ℕ) (d : Duty) : (rd (F := F) m).payload (kcell c k) r d = pay m c k d := by
  show (match cellOfSem (cellSem k) with | some k => pay m c k d | none => iprop(emp)) = _
  rw [cellOfSem_cellSem]

/-- The units a cell's round expects. -/
def tot : Cell → ℕ
  | .inl _ => 6
  | .inr k => amt (.inr k)

theorem rd_expect (c : Dev nD) (k : Cell) : (rd (F := F) m).expect (kcell c k) 0 = tot k := by
  unfold Schedule.expect Schedule.amountOf
  rw [rd_duties, Finset.sum_congr rfl fun d _ => rd_amount m c k 0 d, Finset.sum_const, smul_eq_mul]
  rcases k with b | k
  · rfl
  · show 1 * _ = _; exact Nat.one_mul _

/-- All that a single-duty cell hands over. -/
theorem rd_rest_one (c : Dev nD) (k : Fin 4 ⊕ (Fin 4 × Fin 8 × Fin 3)) :
    bigSep ((rd (F := F) m).duties (kcell c (.inr k)) 0 \ ∅) (fun d => (rd (F := F) m).payload (kcell c (.inr k)) 0 d)
      = pay m c (.inr k) (false, 0) := by
  rw [Finset.sdiff_empty, rd_duties]
  show bigSep {(false, 0)} _ = _
  rw [bigSep_singleton, rd_payload]

/-- All that a barrier cell hands over: by direction, by peer. -/
theorem rd_rest_six (c : Dev nD) (b : Bool) :
    bigSep ((rd (F := F) m).duties (kcell c (.inl b)) 0 \ ∅) (fun d => (rd (F := F) m).payload (kcell c (.inl b)) 0 d)
      = bigSep Finset.univ fun d : Duty => pay m c (.inl b) d := by
  rw [Finset.sdiff_empty, rd_duties]
  exact bigSep_congr fun d _ => rd_payload m c _ 0 d

/-! ## What is owed, and the levels -/

/-- Units owed to a list of cells, one duty's worth each; the first of the list is paid first. -/
def owe : List (Dev nD × Cell) → CellTallies nD τ sig Unit
  | [] => 0
  | p :: l => owe l + tallyAt (kcell p.1 p.2) () (amt p.2)

theorem owe_pos {l : List (Dev nD × Cell)} {g : GSem nD τ sig} {u : Unit} (h : 0 < owe l g u) : ∃ p ∈ l, g = kcell p.1 p.2 := by
  induction l with
  | nil => exact absurd h (Nat.lt_irrefl 0)
  | cons p l ih =>
    unfold owe at h
    rw [Pi.add_apply, Finsupp.add_apply, tallyAt_apply] at h
    by_cases e : g = kcell p.1 p.2
    · exact ⟨p, List.mem_cons_self, e⟩
    · rw [if_neg fun h' => e h'.1] at h
      obtain ⟨p', hp', e'⟩ := ih h
      exact ⟨p', List.mem_cons_of_mem _ hp', e'⟩

/-- The level of a cell: sends and copies lowest, the barrier next, the receipts along z piece by piece, then those in
    the plane, the closing exchange highest. -/
def lvK : Cell → ℕ
  | .inl false => 1
  | .inl true => 30
  | .inr (.inl _) => 0
  | .inr (.inr (0, _, _)) => 0
  | .inr (.inr (1, i, _)) => 2 + i.val
  | .inr (.inr (2, _, _)) => 0
  | .inr (.inr (3, _, _)) => 20

def L (g : GSem nD τ sig) : Finset Unit := if g.1.2 = .tc then {()} else ∅
def lv (g : GSem nD τ sig) (_ : Unit) : ℕ := match cellOfSem g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Cell) (u : Unit) : lv (kcell c k) u = lvK k := by
  show (match cellOfSem (cellSem k) with | some k => lvK k | none => 0) = _
  rw [cellOfSem_cellSem]

/-- Every cell of the list lies above level `n`. -/
def above (n : ℕ) : List (Dev nD × Cell) → Bool
  | [] => true
  | p :: l => decide (n < lvK p.2) && above n l

theorem lt_of_above {n : ℕ} {l : List (Dev nD × Cell)} (h : above n l = true) : ∀ p ∈ l, n < lvK p.2 := by
  induction l with
  | nil => intro p hp; cases hp
  | cons a l ih =>
    unfold above at h
    rw [Bool.and_eq_true] at h
    intro p hp
    rcases List.mem_cons.mp hp with rfl | hp
    exacts [of_decide_eq_true h.1, ih h.2 p hp]

/-- A device may wait for a semaphore below everything it owes. -/
theorem mayWait_owe (c : Dev nD) (sm : SemLoc sig) (n : ℕ) (hn : lv ((c : Thread nD τ), sm) () ≤ n) (l : List (Dev nD × Cell))
    (h : above n l = true) : (levAts L lv : sProp 𝕄) ⊢ MayWait (c : Thread nD τ) sm () (owe l) :=
  MayOwe.of_cut (L := L) (lev := lv) n (fun p hp => by rw [Finset.mem_singleton.mp hp, L_tc]; exact Finset.mem_singleton_self _)
    (fun g u hg => by
      obtain ⟨p, -, rfl⟩ := owe_pos hg
      exact Finset.mem_singleton_self _)
    (fun p hp => by rw [Finset.mem_singleton.mp hp]; exact hn)
    (fun g u hg => by
      obtain ⟨p, hp, rfl⟩ := owe_pos hg
      rw [lv_kcell]; exact lt_of_above h p hp)

/-! ## The payments of a device, in order -/

def six (c : Dev nD) (k : Cell) : List (Dev nD × Cell) :=
  [(up 0 c, k), (up 1 c, k), (up 2 c, k), (pl 0 c, k), (pl 1 c, k), (pl 2 c, k)]
def zL (c : Dev nD) (i : Fin 8) (l : List (Dev nD × Cell)) : List (Dev nD × Cell) :=
  (up 0 c, pcK 1 i 0) :: (up 1 c, pcK 1 i 1) :: (up 2 c, pcK 1 i 2) :: l
def xL (c : Dev nD) (i : Fin 8) (l : List (Dev nD × Cell)) : List (Dev nD × Cell) :=
  (pl 0 c, pcK 3 i 0) :: (pl 1 c, pcK 3 i 1) :: (pl 2 c, pcK 3 i 2) :: l

/-- What is still owed once the first `n` pieces are started along z and the first `n - 1` sent in the plane. -/
def owed7 (c : Dev nD) : List (Dev nD × Cell) := xL c 7 (six c finK)
def owed6 (c : Dev nD) : List (Dev nD × Cell) := zL c 7 (xL c 6 (owed7 c))
def owed5 (c : Dev nD) : List (Dev nD × Cell) := zL c 6 (xL c 5 (owed6 c))
def owed4 (c : Dev nD) : List (Dev nD × Cell) := zL c 5 (xL c 4 (owed5 c))
def owed3 (c : Dev nD) : List (Dev nD × Cell) := zL c 4 (xL c 3 (owed4 c))
def owed2 (c : Dev nD) : List (Dev nD × Cell) := zL c 3 (xL c 2 (owed3 c))
def owed1 (c : Dev nD) : List (Dev nD × Cell) := zL c 2 (xL c 1 (owed2 c))
def owed0 (c : Dev nD) : List (Dev nD × Cell) := zL c 1 (xL c 0 (owed1 c))
def owedA (c : Dev nD) : List (Dev nD × Cell) := six c barK ++ zL c 0 (owed0 c)

end Cert.KernelIdeal.Rms

end
-- ==== Proof.Ideal.Rules.lean ====
/- One rule per kind of step of the body, at a symbolic device and cell: a signal, a wait, a transfer to a peer, a local
   copy. Each takes what the step consumes and gives back what it yields. -/
module

public import proofs.«01_k».proof.Proof.Ideal.Proto

@[expose] public section

set_option backward.proofsInPublic true

noncomputable section

namespace Cert.KernelIdeal.Rms

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The names of the cells' invariants. -/
abbrev Names : Type := Dev nD × Cell → ℕ
variable (N : Names)

/-- What every device knows: each cell's invariant, that each cell is at its first round, and the levels. -/
def recs : sProp 𝕄 :=
  iprop((bigSep Finset.univ fun p : Dev nD × Cell => cellInv ER (rd m) (N p) (kcell p.1 p.2))
    ∗ (bigSep Finset.univ fun p : Dev nD × Cell => reached ER (kcell p.1 p.2) 0) ∗ levAts L lv)

instance recs_persistent : BI.Persistent (recs m N) := by unfold recs; infer_instance

theorem recs_inv (c : Dev nD) (k : Cell) : recs m N ⊢ cellInv ER (rd m) (N (c, k)) (kcell c k) := by
  have h : (bigSep Finset.univ fun p : Dev nD × Cell => (cellInv ER (rd m) (N p) (kcell p.1 p.2) : sProp 𝕄))
      ⊢ cellInv ER (rd m) (N (c, k)) (kcell c k) := bigSep_elim (Finset.mem_univ (c, k))
  unfold recs
  iintro ⟨H, -, -⟩
  iapply h
  iexact H
theorem recs_reached (c : Dev nD) (k : Cell) : recs m N ⊢ reached ER (kcell c k) 0 := by
  have h : (bigSep Finset.univ fun p : Dev nD × Cell => (reached ER (kcell p.1 p.2) 0 : sProp 𝕄))
      ⊢ reached ER (kcell c k) 0 := bigSep_elim (Finset.mem_univ (c, k))
  unfold recs
  iintro ⟨-, H, -⟩
  iapply h
  iexact H
/-- The right to fulfil a duty; a cell's position before and after its round; the units its owner may wait for; what the
    device still owes. -/
def tok (c : Dev nD) (k : Cell) (d : Duty) : sProp 𝕄 := dutyTok ER (kcell c k) 0 d
def at0 (c : Dev nD) (k : Cell) : sProp 𝕄 := atPos ER (kcell c k) 0 ∅ 0
def at1 (c : Dev nD) (k : Cell) : sProp 𝕄 := atPos ER (kcell c k) (0 + 1) ∅ 0
def cr (c : Dev nD) (k : Cell) : sProp 𝕄 := cred (tallyAt (kcell c k) () (tot k))
def Ow (c : Dev nD) (l : List (Dev nD × Cell)) : sProp 𝕄 := iprop(∃ W, owes (c : Thread nD τ) (owe l) W)

/-- The single duty of a transfer's cell. -/
abbrev d₀ : Duty := (false, 0)

/-- The weakest precondition of a program of device `c`. -/
abbrev WP (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- A signal of one unit to a barrier cell of device `d`: the duty is fulfilled with what it hands over. -/
theorem wp_sg (c d : Dev nD) (b : Bool) {s : Sem sig} (hs : cellSem (.inl b) = .reg s) (dt : Duty) (l : List (Dev nD × Cell))
    {k : Prog (TpuEff nD τ sig (Elt F) Λ₀ .tc) PUnit} {Q : PUnit → sProp 𝕄} :
    iprop(recs m N ∗ Ow c ((d, .inl b) :: l) ∗ tok d (.inl b) dt ∗ pay m d (.inl b) dt)
      ⊢ iprop((Ow c l -∗ WP c k Q) -∗ WP c (sg s d k) Q) := by
  have e : kcell d (.inl b) = ((d : Thread nD τ), .reg s) := by unfold kcell; rw [hs]
  have hd : dt ∈ (rd (F := F) m).duties ((d : Thread nD τ), .reg s) 0 := by rw [← e, rd_duties]; exact Finset.mem_univ _
  have ha : (rd (F := F) m).amount ((d : Thread nD τ), .reg s) 0 dt = 1 := by rw [← e, rd_amount]; rfl
  have hp : (rd (F := F) m).payload ((d : Thread nD τ), .reg s) 0 dt = pay m d (.inl b) dt := by rw [← e, rd_payload]
  have hI := recs_inv m N d (.inl b)
  have hR := recs_reached m N d (.inl b)
  unfold tok Ow
  show iprop(_ ∗ (∃ W, owes (c : Thread nD τ) (owe l + tallyAt (kcell d (.inl b)) () 1) W) ∗ _) ⊢ _
  rw [e] at hI hR ⊢
  iintro ⟨#HR, ⟨%W, HO⟩, Ht, Hp⟩ Hk
  unfold sg
  iapply (Rounds.wp_signal 𝒱₀ ER (rd m) (c : Thread nD τ) none (dst := (d : Thread nD τ)) (κ := N (d, .inl b))
      (d := dt) hd (ha.trans (by decide)) () (owe l) rfl) $$ [HO Ht Hp]
  · isplitr; · iapply hI; iexact HR
    isplitl [HO]; · iexact HO
    isplitl [Ht]; · iexact Ht
    isplitl [Hp]; · rw [hp]; iexact Hp
    iapply hR; iexact HR
  iintro HO
  iapply Hk
  iexists W; iexact HO

/-- A device may wait for a cell of its own when everything it owes lies above it. -/
theorem recs_wait (c : Dev nD) (k : Cell) (l : List (Dev nD × Cell)) (hl : above (lvK k) l = true) :
    recs m N ⊢ MayWait (c : Thread nD τ) (cellSem k) () (owe l) := by
  have hn : lv ((c : Thread nD τ), cellSem k) () ≤ lvK k := by
    have h := lv_kcell c k ()
    unfold kcell at h
    rw [h]
  unfold recs
  iintro ⟨-, -, H⟩
  iapply (mayWait_owe (F := F) c (cellSem k) (lvK k) hn l hl)
  iexact H

/-- A wait for the whole round of a cell of the device's own, everything owed lying above it. -/
theorem wp_wt (c : Dev nD) (k : Cell) {sm : SemLoc sig} (hs : cellSem k = sm) {k' : ℕ} (hk : k' = tot k)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ sm k' K)
    (l : List (Dev nD × Cell)) (hl : above (lvK k) l = true)
    {p : PUnit → Prog (TpuEff nD τ sig (Elt F) Λ₀ .tc) PUnit} {Q : PUnit → sProp 𝕄} :
    iprop(recs m N ∗ Ow c l ∗ at0 c k ∗ cr c k)
      ⊢ iprop(((Ow c l ∗ at1 c k ∗ bigSep ((rd (F := F) m).duties (kcell c k) 0 \ ∅) (fun d => (rd (F := F) m).payload (kcell c k) 0 d))
          -∗ WP c (p ⟨⟩) Q) -∗ WP c (.op w p) Q) := by
  subst hs hk
  have hI := recs_inv m N c k
  have hM := recs_wait m N c k l hl
  unfold Ow at0 at1 cr
  show iprop(_ ∗ _ ∗ atPos ER ((c : Thread nD τ), cellSem k) 0 ∅ 0 ∗ cred (tallyAt ((c : Thread nD τ), cellSem k) () (tot k))) ⊢ _
  iintro ⟨#HR, ⟨%W, HO⟩, Hat, Hc⟩ Hk
  iapply (Rounds.wp_wait_rest_token 𝒱₀ ER (rd m) (c : Thread nD τ) none (κ := N (c, k)) hw (Set.mem_univ _) () (O := owe l) (W := W)
      (R := 0) (m := 0) (T := ∅) (by rw [Nat.zero_add]; exact (rd_expect m c k).symm)) $$ [HO Hat Hc]
  · isplitr; · iapply hI; iexact HR
    isplitl [Hc]; · iexact Hc
    isplitl [HO]; · iexact HO
    isplitr; · iapply hM; iexact HR
    iexact Hat
  iintro ⟨HO, Hat, -, Hp⟩
  iapply Hk
  isplitl [HO]; · iexists _; iexact HO
  isplitl [Hat]; · iexact Hat
  iexact Hp

/-- The same for a cell of one duty. -/
theorem wp_wt1 (c : Dev nD) (k : Fin 4 ⊕ (Fin 4 × Fin 8 × Fin 3)) {sm : SemLoc sig} (hs : cellSem (.inr k) = sm) {k' : ℕ}
    (hk : k' = tot (.inr k)) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ sm k' K)
    (l : List (Dev nD × Cell)) (hl : above (lvK (.inr k)) l = true)
    {p : PUnit → Prog (TpuEff nD τ sig (Elt F) Λ₀ .tc) PUnit} {Q : PUnit → sProp 𝕄} :
    iprop(recs m N ∗ Ow c l ∗ at0 c (.inr k) ∗ cr c (.inr k))
      ⊢ iprop(((Ow c l ∗ at1 c (.inr k) ∗ pay m c (.inr k) d₀) -∗ WP c (p ⟨⟩) Q) -∗ WP c (.op w p) Q) := by
  have h := wp_wt m N c (.inr k) hs hk hw l hl (p := p) (Q := Q)
  rw [rd_rest_one] at h
  exact h

/-- A transfer to device `d`: its receive cell `kR` is credited there and handed the destination as written, its send cell
    `kS` is credited here and handed the source back. -/
theorem wp_sd (c d : Dev nD) (kS kR : Fin 4 × Fin 8 × Fin 3) {sS sR : DmaSem sig}
    (hsS : cellSem (.inr (.inr kS)) = .dma sS) (hsR : cellSem (.inr (.inr kR)) = .dma sR)
    {s : Shape} {e : EltTy} {src : Memref sig .tc .vmem s e} {dst : Memref sig .tc .vmem s e}
    {hsc : dst.view.ref.isScScratch = false}
    {hsrc : src.view.WordExact} {hdst : dst.view.WordExact}
    {hsem : DmaTarget.Typed .vmem (.dma sR) (.remote (Dev.tc d : Thread nD τ) dst (.dma sS) hsc)}
    (hN : dst.view.dmaCredit = Nz) {q : PosShare TreeShare} (fs : Buf (Elt F) (src.view.loc (c : Thread nD τ)))
    (fd : Buf (Elt F) (dst.view.loc (d : Thread nD τ)))
    (h₁ : (src.view.loc (c : Thread nD τ) ↦[src.view.set]{q} fs) ⊢ pay m c (.inr (.inr kS)) d₀)
    (h₂ : (dst.view.loc (d : Thread nD τ) ↦[dst.view.set]{fullShare} (dst.view.write (Elt F) fd (src.view.read (Elt F) fs) Finset.univ))
      ⊢ pay m d (.inr (.inr kR)) d₀)
    (l : List (Dev nD × Cell)) {p : PUnit → Prog (TpuEff nD τ sig (Elt F) Λ₀ .tc) PUnit} {Q : PUnit → sProp 𝕄} :
    iprop(recs m N ∗ Ow c ((d, .inr (.inr kR)) :: l) ∗ tok c (.inr (.inr kS)) d₀ ∗ tok d (.inr (.inr kR)) d₀
        ∗ (src.view.loc (c : Thread nD τ) ↦[src.view.set]{q} fs) ∗ (dst.view.loc (d : Thread nD τ) ↦[dst.view.set]{fullShare} fd))
      ⊢ iprop(((Ow c l ∗ cr c (.inr (.inr kS))) -∗ WP c (p ⟨⟩) Q)
          -∗ WP c (.op (.enqueueDma src (.remote (Dev.tc d : Thread nD τ) dst (.dma sS) hsc) (.dma sR) hsrc hdst hsem) p) Q) := by
  have eS : kcell c (.inr (.inr kS)) = ((c : Thread nD τ), .dma sS) := by unfold kcell; rw [hsS]
  have eR : kcell d (.inr (.inr kR)) = ((d : Thread nD τ), .dma sR) := by unfold kcell; rw [hsR]
  have hdS : d₀ ∈ (rd (F := F) m).duties ((c : Thread nD τ), .dma sS) 0 := by rw [← eS, rd_duties]; exact Finset.mem_singleton_self _
  have hdR : d₀ ∈ (rd (F := F) m).duties ((d : Thread nD τ), .dma sR) 0 := by rw [← eR, rd_duties]; exact Finset.mem_singleton_self _
  have haS : (rd (F := F) m).amount ((c : Thread nD τ), .dma sS) 0 d₀ = Nz := by rw [← eS, rd_amount]; rfl
  have haR : (rd (F := F) m).amount ((d : Thread nD τ), .dma sR) 0 d₀ = Nz := by rw [← eR, rd_amount]; rfl
  have hpS : (rd (F := F) m).payload ((c : Thread nD τ), .dma sS) 0 d₀ = pay m c (.inr (.inr kS)) d₀ := by rw [← eS, rd_payload]
  have hpR : (rd (F := F) m).payload ((d : Thread nD τ), .dma sR) 0 d₀ = pay m d (.inr (.inr kR)) d₀ := by rw [← eR, rd_payload]
  have hIS := recs_inv m N c (.inr (.inr kS))
  have hRS := recs_reached m N c (.inr (.inr kS))
  have hIR := recs_inv m N d (.inr (.inr kR))
  have hRR := recs_reached m N d (.inr (.inr kR))
  unfold tok Ow cr
  show iprop(_ ∗ (∃ W, owes (c : Thread nD τ) (owe l + tallyAt (kcell d (.inr (.inr kR))) () Nz) W) ∗ _)
    ⊢ iprop(((_ ∗ cred (tallyAt (kcell c (.inr (.inr kS))) () Nz)) -∗ _) -∗ _)
  rw [eS] at hIS hRS ⊢
  rw [eR] at hIR hRR ⊢
  iintro ⟨#HR, ⟨%W, HO⟩, HtS, HtR, Hs, Hd⟩ Hk
  iapply (Rounds.wp_send_pointsTo 𝒱₀ ER (rd m) (c : Thread nD τ) none (κ₁ := N (c, .inr (.inr kS))) (κ₂ := N (d, .inr (.inr kR)))
      (r₁ := 0) (r₂ := 0) (d₁ := d₀) (d₂ := d₀) (fs := fs) (fd := fd) (q := q) hdS hdR () () Nz hN haS haR (owe l) rfl (W := W)
      (by rw [hpS]; exact h₁) (by rw [hpR]; exact h₂)) $$ [HO HtS HtR Hs Hd]
  · isplitr; · iapply hIS; iexact HR
    isplitr; · iapply hIR; iexact HR
    isplitl [Hs]; · iexact Hs
    isplitl [Hd]; · iexact Hd
    isplitl [HO]; · iexact HO
    isplitl [HtS]; · iexact HtS
    isplitr; · iapply hRS; iexact HR
    isplitl [HtR]; · iexact HtR
    iapply hRR; iexact HR
  iintro ⟨Hc, HO⟩
  iapply Hk
  isplitl [HO]; · iexists W; iexact HO
  iexact Hc

/-- Copy `j` of the argument's rows into a quarter: its cell is credited and handed the quarter and the share read. -/
theorem wp_cp (c : Dev nD) (k : Fin 4) {s : SemLoc sig} (hs : cellSem (cpK k) = s)
    {sh : Shape} {e : EltTy} {sp : Space} {src : Memref sig .tc sp sh e} {dst : Memref sig .tc .vmem sh e}
    {hsrc : src.view.WordExact} {hdst : dst.view.WordExact}
    {hsem : DmaTarget.Typed (nD := nD) (p := (Proc.tc : Proc τ)) sp s (DmaTarget.here dst)}
    (hN : dst.view.amount s = Ncp) {q : PosShare TreeShare} (fs : Buf (Elt F) (src.view.loc (c : Thread nD τ)))
    (fd : Buf (Elt F) (dst.view.loc (c : Thread nD τ)))
    (h : iprop((dst.view.loc (c : Thread nD τ) ↦[dst.view.set]{fullShare} (dst.view.write (Elt F) fd (src.view.read (Elt F) fs) Finset.univ))
        ∗ (src.view.loc (c : Thread nD τ) ↦[src.view.set]{q} fs)) ⊢ pay m c (cpK k) d₀)
    {p : PUnit → Prog (TpuEff nD τ sig (Elt F) Λ₀ .tc) PUnit} {Q : PUnit → sProp 𝕄} :
    iprop(recs m N ∗ tok c (cpK k) d₀ ∗ (src.view.loc (c : Thread nD τ) ↦[src.view.set]{q} fs)
        ∗ (dst.view.loc (c : Thread nD τ) ↦[dst.view.set]{fullShare} fd))
      ⊢ iprop((cr c (cpK k) -∗ WP c (p ⟨⟩) Q) -∗ WP c (.op (.enqueueDma src (.here dst) s hsrc hdst hsem) p) Q) := by
  subst hs
  have hd : d₀ ∈ (rd (F := F) m).duties (kcell c (cpK k)) 0 := by rw [rd_duties]; exact Finset.mem_singleton_self _
  have hI := recs_inv m N c (cpK k)
  have hR := recs_reached m N c (cpK k)
  unfold tok cr
  show iprop(_ ∗ dutyTok ER ((c : Thread nD τ), cellSem (cpK k)) 0 d₀ ∗ _) ⊢ iprop((cred (tallyAt ((c : Thread nD τ), cellSem (cpK k)) () Ncp) -∗ _) -∗ _)
  iintro ⟨#HR, Ht, Hs, Hd⟩ Hk
  iapply (Rounds.wp_copy_pointsTo 𝒱₀ ER (rd m) (c : Thread nD τ) none (κ := N (c, cpK k))
      (r := 0) (d := d₀) (fs := fs) (fd := fd) (q := q) hd () Ncp hN (rd_amount m c (cpK k) 0 d₀)
      (by rw [show (rd (F := F) m).payload ((c : Thread nD τ), cellSem (cpK k)) 0 d₀ = pay m c (cpK k) d₀ from rd_payload m c (cpK k) 0 d₀]; exact h)) $$ [Ht Hs Hd]
  · isplitr; · iapply hI; iexact HR
    isplitl [Hs]; · iexact Hs
    isplitl [Hd]; · iexact Hd
    isplitl [Ht]; · iexact Ht
    iapply hR; iexact HR
  iexact Hk

end Cert.KernelIdeal.Rms

end
-- ==== Proof.Ideal.Pieces.lean ====
/- What one load, one store and one transfer of a piece does to the buffers' contents. -/
module

public import proofs.«01_k».proof.Proof.Ideal.Rules

@[expose] public section

set_option backward.proofsInPublic true

noncomputable section

namespace Cert.KernelIdeal.Rms

open Cert.KernelIdeal Cert.KernelIdeal.Gen
open Idealize.ShloMosaic Idealize.ShloMosaic.TcCoe
open Idealize.SL Idealize.SL.Sem

variable {F : FTy → Type} [FloatOps F] (m : (ℓ : Loc nD τ sig) → Buf (Elt F) ℓ)

/-! ## The elements that a piece names -/

theorem set_of_emb {s : Shape} {r : Rect s} {y : s.Idx} (h : y ∈ r.set) : ∃ x, y = r.emb x := by
  rw [← r.map_emb_univ] at h
  obtain ⟨x, -, hx⟩ := Finset.mem_map.mp h
  exact ⟨x, hx.symm⟩

theorem zP_set_s (j : Fin 3) (i : Fin 8) : (zP sM j i).view.set = (rZ j i).set :=
  (View.set_reshape _ _).trans (View.set_slice_whole _ _)
theorem zP_set_r (j : Fin 3) (i : Fin 8) : (zP rM j i).view.set = (rZ j i).set :=
  (View.set_reshape _ _).trans (View.set_slice_whole _ _)
theorem aP_set (w : WdOff) : (aP w).view.set = w.r.set :=
  (View.set_reshape _ _).trans (View.set_slice_whole _ _)
theorem oQ_set (k : Fin 4) : (oQ k).view.set = (rQ k).set := View.set_slice_whole _ _

theorem acc_s (j : Fin 3) (i : Fin 8) : (sM.access (rZ j i)).set = (rZ j i).set := View.set_slice_whole _ _
theorem acc_r (j : Fin 3) (i : Fin 8) : (rM.access (rZ j i)).set = (rZ j i).set := View.set_slice_whole _ _
theorem acc_a (r : Rect S4x512x2048) : (aM.access r).set = r.set := View.set_slice_whole _ _

theorem wd_r {w : WdOff} {q : Fin 4} {i : Fin 8} (h : w.o = ![q.val, 64 * i.val, 0]) : w.r = rA q i := by
  obtain ⟨o, inb, ww⟩ := w
  subst h
  rfl
theorem pk_r {w : PkOff} {q : Fin 4} {i : Fin 8} (h : w.o = ![q.val, 64 * i.val, 0]) : w.r = rA q i := by
  obtain ⟨o, inb, pk⟩ := w
  subst h
  rfl

/-! ## Contents after a step -/

/-- A transfer along z leaves the receiver's piece equal to the sender's. -/
theorem zP_sent (j : Fin 3) (i : Fin 8) (f : (cc0_scratch0 : Ref sig .tc).ty.Contents (Elt F)) (g : (cc0_scratch1 : Ref sig .tc).ty.Contents (Elt F)) :
    ∀ y ∈ (rZ j i).set, (zP rM j i).view.write (Elt F) g ((zP sM j i).view.read (Elt F) f) Finset.univ y = f y := by
  intro y hy
  rw [← zP_set_r] at hy
  obtain ⟨x, -, rfl⟩ := Finset.mem_map.mp hy
  exact (View.write_emb_of_mem _ _ (Finset.mem_univ x)).trans rfl

/-- A transfer in the plane leaves the receiver's piece equal to the sender's. -/
theorem aP_sent (w : WdOff) (f g : (cc0_scratch2 : Ref sig .tc).ty.Contents (Elt F)) :
    ∀ y ∈ w.r.set, (aP w).view.write (Elt F) g ((aP w).view.read (Elt F) f) Finset.univ y = f y := by
  intro y hy
  rw [← aP_set] at hy
  obtain ⟨x, -, rfl⟩ := Finset.mem_map.mp hy
  exact (View.write_emb_of_mem _ _ (Finset.mem_univ x)).trans rfl

/-- A copy of rows leaves the quarter at the device's rows. -/
theorem oQ_copied (c : Dev nD) (k : Fin 4) (g : (cc0_stg1_0 : Ref sig .tc).ty.Contents (Elt F)) :
    ∀ y ∈ (rQ k).set, (oQ k).view.write (Elt F) g ((xP (xof c k)).view.read (Elt F) (argX m c)) Finset.univ y = rowsAt m c y := by
  intro y hy
  obtain ⟨x, rfl⟩ := set_of_emb hy
  refine Eq.trans ?_ (asmQ_emb (rowQ m c) k x).symm
  exact (View.write_emb_of_mem (v := (oQ k).view) _ _ (Finset.mem_univ x)).trans rfl

/-- A piece stored in the send buffer, in the gathered sums, and in the result. -/
theorem stored_s (c : Dev nD) (j : Fin 3) (i : Fin 8) (f : (cc0_scratch0 : Ref sig .tc).ty.Contents (Elt F)) :
    ∀ y ∈ (rZ j i).set, (sM.access (rZ j i)).write (Elt F) f (sendP m c j i) Finset.univ y = sendAt m c y := by
  intro y hy
  obtain ⟨x, rfl⟩ := set_of_emb hy
  refine Eq.trans ?_ (asmZ_emb (sendP m c) j i x).symm
  exact (View.write_emb_of_mem (v := sM.access (rZ j i)) _ _ (Finset.mem_univ x)).trans rfl
theorem stored_a (c : Dev nD) (i : Fin 8) (f : (cc0_scratch2 : Ref sig .tc).ty.Contents (Elt F)) :
    ∀ y ∈ (rA (col c) i).set, (aM.access (rA (col c) i)).write (Elt F) f (sumOf m c i) Finset.univ y = gathAt m c y := by
  intro y hy
  obtain ⟨x, rfl⟩ := set_of_emb hy
  refine Eq.trans ?_ (asmA_emb (gathP m c) (col c) i x).symm
  rw [gathP_col]
  exact (View.write_emb_of_mem (v := aM.access (rA (col c) i)) _ _ (Finset.mem_univ x)).trans rfl

/-- What is sent to the peer `j` up is what that peer is to receive. -/
theorem send_recv (c : Dev nD) (j : Fin 3) (i : Fin 8) (y : S3x512x2048.Idx) (hy : y ∈ (rZ j i).set) :
    asmZ (sendP m c) y = asmZ (recvP m (up j c)) y := by
  obtain ⟨x, rfl⟩ := set_of_emb hy
  rw [asmZ_emb, asmZ_emb, recvP_up]
/-- Peers in the plane gather the same sums. -/
theorem gath_pl (c : Dev nD) (d : Fin 3) : gathAt m (pl d c) = gathAt m c :=
  congrArg asmA (funext fun q => funext fun i => gathP_pl m c d q i)

/-- What a load of a piece reads. -/
theorem read_o (c : Dev nD) (k : Fin 4) (i : Fin 8) : (oM.access (rO k i)).read (Elt F) (rowsAt m c) = rowP m c k i := rfl
theorem read_r (c : Dev nD) (j : Fin 3) (i : Fin 8) : (rM.access (rZ j i)).read (Elt F) (recvAt m c) = recvP m c j i :=
  funext fun x => asmZ_emb (recvP m c) j i x
theorem read_a (c : Dev nD) (q : Fin 4) (i : Fin 8) : (aM.access (rA q i)).read (Elt F) (gathAt m c) = gathP m c q i :=
  funext fun x => asmA_emb (gathP m c) q i x

/-! ## Which pieces of the result are done -/

/-- The pieces numbered below `n` (piece `i` of quarter `q` has number `4 i + q`) hold the result. -/
def Done (c : Dev nD) (n : ℕ) (f : (cc0_stg1_0 : Ref sig .tc).ty.Contents (Elt F)) : Prop :=
  ∀ (q : Fin 4) (i : Fin 8) (x : S64x2048.Idx), 4 * i.val + q.val < n → f ((rO q i).emb x) = outAt m c ((rO q i).emb x)

theorem done_zero (c : Dev nD) (f) : Done m c 0 f := fun _ _ _ h => absurd h (Nat.not_lt_zero _)

/-- Two pieces of the result with an element in common are the same piece. -/
theorem rO_inj {q q' : Fin 4} {i i' : Fin 8} {x x' : S64x2048.Idx} (h : (rO q i).emb x = (rO q' i').emb x') : q = q' ∧ i = i' ∧ x = x' := by
  have h0 : ((rO q i).emb x 0).val = ((rO q' i').emb x' 0).val := by rw [h]
  have h1 : ((rO q i).emb x 1).val = ((rO q' i').emb x' 1).val := by rw [h]
  have e0 : ((rO q i).emb x 0).val = 512 * q.val + 64 * i.val + 1 * (x 0).val := rfl
  have e0' : ((rO q' i').emb x' 0).val = 512 * q'.val + 64 * i'.val + 1 * (x' 0).val := rfl
  have e1 : ((rO q i).emb x 1).val = 0 + 1 * (x 1).val := rfl
  have e1' : ((rO q' i').emb x' 1).val = 0 + 1 * (x' 1).val := rfl
  have hx : (x 0).val < 64 := (x 0).isLt
  have hx' : (x' 0).val < 64 := (x' 0).isLt
  have a : q = q' := Fin.ext (by omega)
  have b : i = i' := Fin.ext (by omega)
  exact ⟨a, b, ix2_ext (by omega) (by omega)⟩

/-- Storing the next piece's rows makes it done and undoes none. -/
theorem done_succ (c : Dev nD) (q : Fin 4) (i : Fin 8) (f : (cc0_stg1_0 : Ref sig .tc).ty.Contents (Elt F))
    (h : Done m c (4 * i.val + q.val) f) :
    Done m c (4 * i.val + q.val + 1) ((oM.access (rO q i)).write (Elt F) f (outP m c q i) Finset.univ) := by
  intro q' i' x hn
  by_cases e : q = q' ∧ i = i'
  · obtain ⟨rfl, rfl⟩ := e
    refine Eq.trans ?_ (asmO_emb (outP m c) q i x).symm
    exact (View.write_emb_of_mem (v := oM.access (rO q i)) _ _ (Finset.mem_univ x)).trans rfl
  · refine Eq.trans (View.write_of_not_mem (v := oM.access (rO q i)) _ _ _ fun hy => ?_) (h q' i' x ?_)
    · obtain ⟨x', -, hx⟩ := Finset.mem_map.mp hy
      have hx' : (rO q i).emb x' = (rO q' i').emb x := hx
      exact e ⟨(rO_inj hx').1, (rO_inj hx').2.1⟩
    · have : ¬ (q.val = q'.val ∧ i.val = i'.val) := fun t => e ⟨Fin.ext t.1, Fin.ext t.2⟩
      omega

theorem done_all (c : Dev nD) (f : (cc0_stg1_0 : Ref sig .tc).ty.Contents (Elt F)) (h : Done m c 32 f) : f = outAt m c := by
  funext y
  obtain ⟨q, i, x, rfl⟩ := exists_rO y
  exact h q i x (by omega)

end Cert.KernelIdeal.Rms

end
-- ==== Proof.Ideal.Blocks.lean ====
/- One rule per block of the body, at a symbolic device, piece and peer. A block's rule takes the resources of the piece in
   one state and gives them back in the next. -/
module

public import proofs.«01_k».proof.Proof.Ideal.Pieces
public import Idealize.ShloMosaic.Lib.Ring.Trips

@[expose] public section

set_option backward.proofsInPublic true

noncomputable section

namespace Cert.KernelIdeal.Rms

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (N : Names)

/-- The result's staging buffer, whole. -/
def oW (c : Dev nD) (f : Buf (Elt F) ((c : Thread nD τ).loc cc0_stg1_0)) : sProp 𝕄 :=
  ((c : Thread nD τ).loc cc0_stg1_0) ↦[Finset.univ]{fullShare} f

/-! ## The exchange along z: before a piece is started, while it is under way, after -/

def Z0 (c : Dev nD) (i : Fin 8) (j : Fin 3) : sProp 𝕄 :=
  iprop(tok c (pcK 0 i j) d₀ ∗ tok (up j c) (pcK 1 i j) d₀ ∗ at0 c (pcK 0 i j) ∗ at0 c (pcK 1 i j) ∗ cr c (pcK 1 i j)
    ∗ (∃ f, ptS c j i f) ∗ (∃ f, ptR (up j c) j i f))
/-- Rounded into the send buffer, not yet sent. -/
def Zs (c : Dev nD) (i : Fin 8) (j : Fin 3) : sProp 𝕄 :=
  iprop(tok c (pcK 0 i j) d₀ ∗ tok (up j c) (pcK 1 i j) d₀ ∗ at0 c (pcK 0 i j) ∗ at0 c (pcK 1 i j) ∗ cr c (pcK 1 i j)
    ∗ ptS c j i (sendAt m c) ∗ (∃ f, ptR (up j c) j i f))
def Z1 (c : Dev nD) (i : Fin 8) (j : Fin 3) : sProp 𝕄 :=
  iprop(at0 c (pcK 0 i j) ∗ at0 c (pcK 1 i j) ∗ cr c (pcK 0 i j) ∗ cr c (pcK 1 i j))
def Z2 (c : Dev nD) (i : Fin 8) (j : Fin 3) : sProp 𝕄 :=
  iprop(at1 c (pcK 0 i j) ∗ at1 c (pcK 1 i j) ∗ ptS c j i (sendAt m c) ∗ ptR c j i (recvAt m c))

/-! ## The exchange in the plane -/

def X0 (c : Dev nD) (i : Fin 8) (j : Fin 3) : sProp 𝕄 :=
  iprop(tok c (pcK 2 i j) d₀ ∗ tok (pl j c) (pcK 3 i j) d₀ ∗ at0 c (pcK 2 i j) ∗ at0 c (pcK 3 i j) ∗ cr c (pcK 3 i j)
    ∗ (∃ f, ptA (pl j c) (col c) i fullShare f))
def X1 (c : Dev nD) (i : Fin 8) (j : Fin 3) : sProp 𝕄 :=
  iprop(at0 c (pcK 2 i j) ∗ at0 c (pcK 3 i j) ∗ cr c (pcK 2 i j) ∗ cr c (pcK 3 i j))
def X2 (c : Dev nD) (i : Fin 8) (j : Fin 3) : sProp 𝕄 :=
  iprop(at1 c (pcK 2 i j) ∗ at1 c (pcK 3 i j) ∗ ptA c (col c) i (Ring.shares3 fullShare j) (gathAt m c)
    ∗ ptA c (col (pl j c)) i fullShare (gathAt m c))

theorem ptS_congr (c : Dev nD) (j : Fin 3) (i : Fin 8) {f g : (cc0_scratch0 : Ref sig .tc).ty.Contents (Elt F)}
    (h : ∀ y ∈ (rZ j i).set, f y = g y) : (ptS c j i f : sProp 𝕄) = ptS c j i g := pointsTo_congr h
theorem ptR_congr (c : Dev nD) (j : Fin 3) (i : Fin 8) {f g : (cc0_scratch1 : Ref sig .tc).ty.Contents (Elt F)}
    (h : ∀ y ∈ (rZ j i).set, f y = g y) : (ptR c j i f : sProp 𝕄) = ptR c j i g := pointsTo_congr h
theorem ptA_congr (c : Dev nD) (q : Fin 4) (i : Fin 8) (s : PosShare TreeShare) {f g : (cc0_scratch2 : Ref sig .tc).ty.Contents (Elt F)}
    (h : ∀ y ∈ (rA q i).set, f y = g y) : (ptA c q i s f : sProp 𝕄) = ptA c q i s g := pointsTo_congr h

/-- What the four kinds of transfer hand over. -/
theorem pay_zs (c : Dev nD) (i : Fin 8) (j : Fin 3) : pay m c (.inr (.inr (0, i, j))) d₀ = ptS c j i (sendAt m c) := rfl
theorem pay_zr (c : Dev nD) (i : Fin 8) (j : Fin 3) : pay m c (.inr (.inr (1, i, j))) d₀ = ptR c j i (recvAt m c) := rfl
theorem pay_xs (c : Dev nD) (i : Fin 8) (j : Fin 3) :
    pay m c (.inr (.inr (2, i, j))) d₀ = ptA c (col c) i (Ring.shares3 fullShare j) (gathAt m c) := rfl
theorem pay_xr (c : Dev nD) (i : Fin 8) (j : Fin 3) :
    pay m c (.inr (.inr (3, i, j))) d₀ = ptA c (col (pl j c)) i fullShare (gathAt m c) := rfl

/-- What arrives is what was sent, as the receiver's piece. -/
theorem landR (c : Dev nD) (j : Fin 3) (i : Fin 8) (f : (cc0_scratch1 : Ref sig .tc).ty.Contents (Elt F)) :
    (ptR (up j c) j i ((zP rM j i).view.write (Elt F) f ((zP sM j i).view.read (Elt F) (sendAt m c)) Finset.univ) : sProp 𝕄)
      = ptR (up j c) j i (recvAt m (up j c)) :=
  ptR_congr _ _ _ fun y hy => (zP_sent j i (sendAt m c) f y hy).trans (send_recv m c j i y hy)

/-- A family over the three peers. -/
def all3 (Φ : Fin 3 → sProp 𝕄) : sProp 𝕄 := iprop(Φ 0 ∗ Φ 1 ∗ Φ 2)

/-- Rounding a piece into the send buffer. -/
theorem stZ_wp {K : Prog (TpuEff nD τ sig (Elt F) Λ₀ .tc) PUnit} {Q : PUnit → sProp 𝕄} (c : Dev nD) (j : Fin 3) (i : Fin 8) :
    iprop(Z0 c i j ∗ oW c (rowsAt m c)) ⊢ iprop(((Zs m c i j ∗ oW c (rowsAt m c)) -∗ WP c K Q) -∗ WP c (stZ j i K) Q) := by
  unfold Z0 Zs oW ptS
  iintro ⟨⟨Ht, Ht', Ha, Ha', Hc, ⟨%f, HS⟩, HR⟩, HO⟩ Hk
  unfold stZ
  iapply (wp_load_rect 𝒱₀ (c : Thread nD τ) none Set.univ (m := oM) (r := rO (Fin.castLE (Nat.le_succ 3) j) i) (S := Finset.univ) (q := fullShare)
    (f := rowsAt m c) (Finset.subset_univ _)) $$ [HO]
  · iexact HO
  iintro HO
  iapply (wp_load_rect 𝒱₀ (c : Thread nD τ) none Set.univ (m := sM) (r := rZ j i) (S := (rZ j i).set) (q := fullShare)
    (f := f) (acc_s j i).subset) $$ [HS]
  · iexact HS
  iintro HS
  iapply (wp_store 𝒱₀ (c : Thread nD τ) none Set.univ (m := sM) (r := rZ j i) (S := (rZ j i).set)
    (f := f) (acc_s j i).subset) $$ [HS]
  · iexact HS
  iintro HS
  have h : (((c : Thread nD τ).loc cc0_scratch0) ↦[(rZ j i).set]{fullShare} ((sM.access (rZ j i)).write (Elt F) f (sendP m c j i) Finset.univ) : sProp 𝕄)
      ⊢ (((c : Thread nD τ).loc cc0_scratch0) ↦[(rZ j i).set]{fullShare} (sendAt m c)) :=
    Entails.of_eq (ptS_congr c j i (stored_s m c j i f))
  iapply Hk
  isplitr [HO]
  · isplitl [Ht]; · iexact Ht
    isplitl [Ht']; · iexact Ht'
    isplitl [Ha]; · iexact Ha
    isplitl [Ha']; · iexact Ha'
    isplitl [Hc]; · iexact Hc
    isplitl [HS]; · iapply h; iexact HS
    iexact HR
  iexact HO

/-- Sending a piece to the peer `j` up. -/
theorem sdZ_wp {K : Prog (TpuEff nD τ sig (Elt F) Λ₀ .tc) PUnit} {Q : PUnit → sProp 𝕄} (c : Dev nD) (j : Fin 3) (i : Fin 8) (l : List (Dev nD × Cell)) :
    iprop(recs m N ∗ Ow c ((up j c, pcK 1 i j) :: l) ∗ Zs m c i j)
      ⊢ iprop(((Ow c l ∗ Z1 c i j) -∗ WP c K Q) -∗ WP c (sdZ j i (up j c) K) Q) := by
  unfold Zs Z1
  iintro ⟨#HR, HO, Ht, Ht', Ha, Ha', Hc, HS, ⟨%f, HD⟩⟩ Hk
  unfold sdZ
  have h₁ : ((zP sM j i).view.loc (c : Thread nD τ) ↦[(zP sM j i).view.set]{fullShare} (sendAt m c) : sProp 𝕄)
      ⊢ pay m c (pcK 0 i j) d₀ := by
    rw [zP_set_s, pay_zs]; exact .rfl
  have h₂ : ((zP rM j i).view.loc ((up j c : Dev nD) : Thread nD τ) ↦[(zP rM j i).view.set]{fullShare}
        ((zP rM j i).view.write (Elt F) f ((zP sM j i).view.read (Elt F) (sendAt m c)) Finset.univ) : sProp 𝕄)
      ⊢ pay m (up j c) (pcK 1 i j) d₀ := by
    rw [zP_set_r, pay_zr]
    exact Entails.of_eq (landR m c j i f)
  iapply (wp_sd m N c (up j c) (0, i, j) (1, i, j) (sS := zs j i) (sR := zr j i) rfl rfl (src := zP sM j i) (dst := zP rM j i)
    (credit_rM j i) (sendAt m c) f h₁ h₂ l) $$ [HO Ht Ht' HS HD]
  · isplitr; · iexact HR
    isplitl [HO]; · iexact HO
    isplitl [Ht]; · iexact Ht
    isplitl [Ht']; · iexact Ht'
    isplitl [HS]; · rw [zP_set_s]; unfold ptS; iexact HS
    rw [zP_set_r]; unfold ptR; iexact HD
  iintro ⟨HO, Hc'⟩
  iapply Hk
  isplitl [HO]; · iexact HO
  isplitl [Ha]; · iexact Ha
  isplitl [Ha']; · iexact Ha'
  isplitl [Hc']; · iexact Hc'
  iexact Hc

/-- Waiting for a piece to have left and the peer's to have come. -/
theorem wtZ_wp {K : Prog (TpuEff nD τ sig (Elt F) Λ₀ .tc) PUnit} {Q : PUnit → sProp 𝕄} (c : Dev nD) (j : Fin 3) (i : Fin 8) (l : List (Dev nD × Cell)) (hl : above (2 + i.val) l = true) (hl' : above 0 l = true) :
    iprop(recs m N ∗ Ow c l ∗ Z1 c i j) ⊢ iprop(((Ow c l ∗ Z2 m c i j) -∗ WP c K Q) -∗ WP c (wtZ j i K) Q) := by
  unfold Z1 Z2
  iintro ⟨#HR, HO, Ha, Ha', Hc, Hc'⟩ Hk
  unfold wtZ
  iapply (wp_wt1 m N c (.inr (0, i, j)) (sm := .dma (zs j i)) rfl (k' := (zP sM j i).view.dmaCredit) (credit_sM j i)
    (wpE_waitDma2_eq 𝒱₀ (c : Thread nD τ) none Set.univ) l hl') $$ [HO Ha Hc]
  · isplitr; · iexact HR
    isplitl [HO]; · iexact HO
    isplitl [Ha]; · iexact Ha
    iexact Hc
  iintro ⟨HO, Ha, HS⟩
  iapply (wp_wt1 m N c (.inr (1, i, j)) (sm := .dma (zr j i)) rfl (k' := (zP rM j i).view.dmaCredit) (credit_rM j i)
    (wpE_waitDma2_eq 𝒱₀ (c : Thread nD τ) none Set.univ) l hl) $$ [HO Ha' Hc']
  · isplitr; · iexact HR
    isplitl [HO]; · iexact HO
    isplitl [Ha']; · iexact Ha'
    iexact Hc'
  iintro ⟨HO, Ha', HD⟩
  iapply Hk
  isplitl [HO]; · iexact HO
  isplitl [Ha]; · iexact Ha
  isplitl [Ha']; · iexact Ha'
  isplitl [HS]; · rw [← pay_zs]; iexact HS
  rw [← pay_zr]; iexact HD

/-- Summing a piece over the column and storing it among the gathered sums. -/
theorem sumB_wp {K : Prog (TpuEff nD τ sig (Elt F) Λ₀ .tc) PUnit} {Q : PUnit → sProp 𝕄} (c : Dev nD) (i : Fin 8) (p : PkOff) (hp : p.o = ![(col c).val, 64 * i.val, 0]) :
    iprop(oW c (rowsAt m c) ∗ all3 (Z2 m c i) ∗ (∃ f, ptA c (col c) i fullShare f))
      ⊢ iprop(((oW c (rowsAt m c) ∗ all3 (Z2 m c i) ∗ ptA c (col c) i fullShare (gathAt m c)) -∗ WP c K Q) -∗ WP c (sumB i p K) Q) := by
  have hr : p.r = rA (col c) i := pk_r hp
  unfold all3 Z2 oW ptR
  iintro ⟨HO, ⟨⟨Ha, Hb, Hs, Hr0⟩, ⟨Ha', Hb', Hs', Hr1⟩, ⟨Ha'', Hb'', Hs'', Hr2⟩⟩, ⟨%f, HA⟩⟩ Hk
  unfold sumB
  iapply (wp_load_rect 𝒱₀ (c : Thread nD τ) none Set.univ (m := oM) (r := rO 3 i) (S := Finset.univ) (q := fullShare)
    (f := rowsAt m c) (Finset.subset_univ _)) $$ [HO]
  · iexact HO
  iintro HO
  iapply (wp_load_rect 𝒱₀ (c : Thread nD τ) none Set.univ (m := rM) (r := rZ 0 i) (S := (rZ 0 i).set) (q := fullShare)
    (f := recvAt m c) (acc_r 0 i).subset) $$ [Hr0]
  · iexact Hr0
  iintro Hr0
  iapply (wp_load_rect 𝒱₀ (c : Thread nD τ) none Set.univ (m := rM) (r := rZ 1 i) (S := (rZ 1 i).set) (q := fullShare)
    (f := recvAt m c) (acc_r 1 i).subset) $$ [Hr1]
  · iexact Hr1
  iintro Hr1
  iapply (wp_load_rect 𝒱₀ (c : Thread nD τ) none Set.univ (m := rM) (r := rZ 2 i) (S := (rZ 2 i).set) (q := fullShare)
    (f := recvAt m c) (acc_r 2 i).subset) $$ [Hr2]
  · iexact Hr2
  iintro Hr2
  unfold ptA
  iapply (wp_load_rect 𝒱₀ (c : Thread nD τ) none Set.univ (m := aM) (r := p.r) (S := (rA (col c) i).set) (q := fullShare)
    (f := f) (by rw [acc_a, hr])) $$ [HA]
  · iexact HA
  iintro HA
  iapply (wp_store 𝒱₀ (c : Thread nD τ) none Set.univ (m := aM) (r := p.r) (S := (rA (col c) i).set)
    (f := f) (Finset.Subset.trans (show (aM.access p.r).setOn Finset.univ ⊆ (aM.access p.r).set from Finset.Subset.refl _) (by rw [acc_a, hr]))) $$ [HA]
  · iexact HA
  iintro HA
  have h : (((c : Thread nD τ).loc cc0_scratch2) ↦[(rA (col c) i).set]{fullShare} ((aM.access p.r).write (Elt F) f
      (sumP ((oM.access (rO 3 i)).read (Elt F) (rowsAt m c)) ((rM.access (rZ 0 i)).read (Elt F) (recvAt m c))
        ((rM.access (rZ 1 i)).read (Elt F) (recvAt m c)) ((rM.access (rZ 2 i)).read (Elt F) (recvAt m c))) Finset.univ) : sProp 𝕄)
      ⊢ (((c : Thread nD τ).loc cc0_scratch2) ↦[(rA (col c) i).set]{fullShare} (gathAt m c)) := by
    rw [read_o, read_r, read_r, read_r]
    obtain ⟨o, inb, pk⟩ := p
    subst hp
    exact Entails.of_eq (ptA_congr c (col c) i fullShare (stored_a m c i f))
  iapply Hk
  isplitl [HO]; · iexact HO
  isplitr [HA]
  · isplitl [Ha Hb Hs Hr0]
    · isplitl [Ha]; · iexact Ha
      isplitl [Hb]; · iexact Hb
      isplitl [Hs]; · iexact Hs
      iexact Hr0
    isplitl [Ha' Hb' Hs' Hr1]
    · isplitl [Ha']; · iexact Ha'
      isplitl [Hb']; · iexact Hb'
      isplitl [Hs']; · iexact Hs'
      iexact Hr1
    isplitl [Ha'']; · iexact Ha''
    isplitl [Hb'']; · iexact Hb''
    isplitl [Hs'']; · iexact Hs''
    iexact Hr2
  iapply h; iexact HA

/-- Sending a piece to peer `j` in the plane, from the share of it that is set aside for that. -/
theorem sdX_wp {K : Prog (TpuEff nD τ sig (Elt F) Λ₀ .tc) PUnit} {Q : PUnit → sProp 𝕄} (c : Dev nD) (j : Fin 3) (i : Fin 8) (w : WdOff) (hw : w.o = ![(col c).val, 64 * i.val, 0]) (l : List (Dev nD × Cell)) :
    iprop(recs m N ∗ Ow c ((pl j c, pcK 3 i j) :: l) ∗ X0 c i j ∗ ptA c (col c) i (Ring.shares3 fullShare j) (gathAt m c))
      ⊢ iprop(((Ow c l ∗ X1 c i j) -∗ WP c K Q) -∗ WP c (sdX j i w (pl j c) K) Q) := by
  have hr : w.r = rA (col c) i := wd_r hw
  unfold X0 X1
  iintro ⟨#HR, HO, ⟨Ht, Ht', Ha, Ha', Hc, ⟨%f, HD⟩⟩, HS⟩ Hk
  unfold sdX
  have h₁ : ((aP w).view.loc (c : Thread nD τ) ↦[(aP w).view.set]{Ring.shares3 fullShare j} (gathAt m c) : sProp 𝕄)
      ⊢ pay m c (pcK 2 i j) d₀ := by
    rw [aP_set, hr, pay_xs]; exact .rfl
  have h₂ : ((aP w).view.loc ((pl j c : Dev nD) : Thread nD τ) ↦[(aP w).view.set]{fullShare}
        ((aP w).view.write (Elt F) f ((aP w).view.read (Elt F) (gathAt m c)) Finset.univ) : sProp 𝕄)
      ⊢ pay m (pl j c) (pcK 3 i j) d₀ := by
    show _ ⊢ ptA (pl j c) (col (pl j (pl j c))) i fullShare (gathAt m (pl j c))
    rw [pl_pl, gath_pl, aP_set, hr]
    exact Entails.of_eq (ptA_congr (pl j c) (col c) i fullShare fun y hy => aP_sent w (gathAt m c) f y (by rw [hr]; exact hy))
  iapply (wp_sd m N c (pl j c) (2, i, j) (3, i, j) (sS := xs j i) (sR := xr j i) rfl rfl (src := aP w) (dst := aP w)
    (credit_aM w) (gathAt m c) f h₁ h₂ l) $$ [HO Ht Ht' HS HD]
  · isplitr; · iexact HR
    isplitl [HO]; · iexact HO
    isplitl [Ht]; · iexact Ht
    isplitl [Ht']; · iexact Ht'
    isplitl [HS]; · rw [aP_set, hr]; unfold ptA; iexact HS
    rw [aP_set, hr]; unfold ptA; iexact HD
  iintro ⟨HO, Hc'⟩
  iapply Hk
  isplitl [HO]; · iexact HO
  isplitl [Ha]; · iexact Ha
  isplitl [Ha']; · iexact Ha'
  isplitl [Hc']; · iexact Hc'
  iexact Hc

/-- Waiting for a piece to have left for peer `j` and that peer's to have come. -/
theorem wtX_wp {K : Prog (TpuEff nD τ sig (Elt F) Λ₀ .tc) PUnit} {Q : PUnit → sProp 𝕄} (c : Dev nD) (j : Fin 3) (i : Fin 8) (w : WdOff) (l : List (Dev nD × Cell)) (hl : above 20 l = true) (hl' : above 0 l = true) :
    iprop(recs m N ∗ Ow c l ∗ X1 c i j) ⊢ iprop(((Ow c l ∗ X2 m c i j) -∗ WP c K Q) -∗ WP c (wtX j i w K) Q) := by
  unfold X1 X2
  iintro ⟨#HR, HO, Ha, Ha', Hc, Hc'⟩ Hk
  unfold wtX
  iapply (wp_wt1 m N c (.inr (2, i, j)) (sm := .dma (xs j i)) rfl (k' := (aP w).view.dmaCredit) (credit_aM w)
    (wpE_waitDma2_eq 𝒱₀ (c : Thread nD τ) none Set.univ) l hl') $$ [HO Ha Hc]
  · isplitr; · iexact HR
    isplitl [HO]; · iexact HO
    isplitl [Ha]; · iexact Ha
    iexact Hc
  iintro ⟨HO, Ha, HS⟩
  iapply (wp_wt1 m N c (.inr (3, i, j)) (sm := .dma (xr j i)) rfl (k' := (aP w).view.dmaCredit) (credit_aM w)
    (wpE_waitDma2_eq 𝒱₀ (c : Thread nD τ) none Set.univ) l hl) $$ [HO Ha' Hc']
  · isplitr; · iexact HR
    isplitl [HO]; · iexact HO
    isplitl [Ha']; · iexact Ha'
    iexact Hc'
  iintro ⟨HO, Ha', HD⟩
  iapply Hk
  isplitl [HO]; · iexact HO
  isplitl [Ha]; · iexact Ha
  isplitl [Ha']; · iexact Ha'
  isplitl [HS]; · rw [← pay_xs]; iexact HS
  rw [← pay_xr]; iexact HD

/-- The result's buffer with the pieces numbered below `n` done. -/
def oD (c : Dev nD) (n : ℕ) : sProp 𝕄 := iprop(∃ f, ⌜Done m c n f⌝ ∗ oW c f)

/-- Normalising piece `i` of slab `q`. -/
theorem nmQ_wp {K : Prog (TpuEff nD τ sig (Elt F) Λ₀ .tc) PUnit} {Q : PUnit → sProp 𝕄} (c : Dev nD) (q : Fin 4) (i : Fin 8) :
    iprop(oD m c (4 * i.val + q.val) ∗ ptA c q i fullShare (gathAt m c))
      ⊢ iprop(((oD m c (4 * i.val + q.val + 1) ∗ ptA c q i fullShare (gathAt m c)) -∗ WP c K Q)
          -∗ WP c (nmQ (scaleRow (argG m c)) q i K) Q) := by
  unfold oD oW ptA
  iintro ⟨⟨%f, %hf, HO⟩, HA⟩ Hk
  unfold nmQ
  iapply (wp_load_rect 𝒱₀ (c : Thread nD τ) none Set.univ (m := aM) (r := rA q i) (S := (rA q i).set) (q := fullShare)
    (f := gathAt m c) (acc_a _).subset) $$ [HA]
  · iexact HA
  iintro HA
  iapply (wp_load_rect 𝒱₀ (c : Thread nD τ) none Set.univ (m := oM) (r := rO q i) (S := Finset.univ) (q := fullShare)
    (f := f) (Finset.subset_univ _)) $$ [HO]
  · iexact HO
  iintro HO
  iapply (wp_store 𝒱₀ (c : Thread nD τ) none Set.univ (m := oM) (r := rO q i) (S := Finset.univ)
    (f := f) (Finset.subset_univ _)) $$ [HO]
  · iexact HO
  iintro HO
  iapply Hk
  isplitl [HO]
  · iexists ((oM.access (rO q i)).write (Elt F) f (outP m c q i) Finset.univ)
    isplitr; · ipureintro; exact done_succ m c q i f hf
    have e : outP m c q i = normP (scaleRow (argG m c)) ((aM.access (rA q i)).read (Elt F) (gathAt m c)) := by
      rw [read_a]; rfl
    rw [e]
    iexact HO
  iexact HA

end Cert.KernelIdeal.Rms

end
-- ==== Proof.Ideal.Steps.lean ====
/- The rounds of the body: each round's rule from the rules of its blocks. -/
module

public import proofs.«01_k».proof.Proof.Ideal.Blocks

@[expose] public section

set_option backward.proofsInPublic true

noncomputable section

namespace Cert.KernelIdeal.Rms

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (N : Names)

/-- A piece rounded for the three peers and sent to them. -/
theorem startZ_wp {K : Prog (TpuEff nD τ sig (Elt F) Λ₀ .tc) PUnit} {Q : PUnit → sProp 𝕄} (c : Dev nD) (i : Fin 8) (l : List (Dev nD × Cell)) :
    iprop(recs m N ∗ Ow c (zL c i l) ∗ all3 (Z0 c i) ∗ oW c (rowsAt m c))
      ⊢ iprop(((Ow c l ∗ all3 (Z1 c i) ∗ oW c (rowsAt m c)) -∗ WP c K Q)
          -∗ WP c (startZ i (up 0 c) (up 1 c) (up 2 c) K) Q) := by
  unfold all3 zL
  iintro ⟨#HR, HO, ⟨H0, H1, H2⟩, Hw⟩ Hk
  unfold startZ
  iapply (stZ_wp m c 0 i) $$ [H0 Hw]
  · iframe
  iintro ⟨H0, Hw⟩
  iapply (stZ_wp m c 1 i) $$ [H1 Hw]
  · iframe
  iintro ⟨H1, Hw⟩
  iapply (stZ_wp m c 2 i) $$ [H2 Hw]
  · iframe
  iintro ⟨H2, Hw⟩
  iapply (sdZ_wp m N c 0 i _) $$ [HO H0]
  · iframe HR HO H0
  iintro ⟨HO, H0⟩
  iapply (sdZ_wp m N c 1 i _) $$ [HO H1]
  · iframe HR HO H1
  iintro ⟨HO, H1⟩
  iapply (sdZ_wp m N c 2 i _) $$ [HO H2]
  · iframe HR HO H2
  iintro ⟨HO, H2⟩
  iapply Hk
  iframe

/-- A piece waited for on the three pairs of cells. -/
theorem waitZ_wp {K : Prog (TpuEff nD τ sig (Elt F) Λ₀ .tc) PUnit} {Q : PUnit → sProp 𝕄} (c : Dev nD) (i : Fin 8) (l : List (Dev nD × Cell)) (hl : above (2 + i.val) l = true) (hl' : above 0 l = true) :
    iprop(recs m N ∗ Ow c l ∗ all3 (Z1 c i)) ⊢ iprop(((Ow c l ∗ all3 (Z2 m c i)) -∗ WP c K Q) -∗ WP c (waitZ i K) Q) := by
  unfold all3
  iintro ⟨#HR, HO, ⟨H0, H1, H2⟩⟩ Hk
  unfold waitZ
  iapply (wtZ_wp m N c 0 i l hl hl') $$ [HO H0]
  · iframe HR HO H0
  iintro ⟨HO, H0⟩
  iapply (wtZ_wp m N c 1 i l hl hl') $$ [HO H1]
  · iframe HR HO H1
  iintro ⟨HO, H1⟩
  iapply (wtZ_wp m N c 2 i l hl hl') $$ [HO H2]
  · iframe HR HO H2
  iintro ⟨HO, H2⟩
  iapply Hk
  iframe

/-- A summed piece sent to the three peers in the plane, a third of its share to each. -/
theorem sendX_wp {K : Prog (TpuEff nD τ sig (Elt F) Λ₀ .tc) PUnit} {Q : PUnit → sProp 𝕄} (c : Dev nD) (i : Fin 8) (w : WdOff) (hw : w.o = ![(col c).val, 64 * i.val, 0]) (l : List (Dev nD × Cell)) :
    iprop(recs m N ∗ Ow c (xL c i l) ∗ all3 (X0 c i) ∗ ptA c (col c) i fullShare (gathAt m c))
      ⊢ iprop(((Ow c l ∗ all3 (X1 c i)) -∗ WP c K Q) -∗ WP c (sendX i w (pl 0 c) (pl 1 c) (pl 2 c) K) Q) := by
  have h3 : (ptA c (col c) i fullShare (gathAt m c) : sProp 𝕄) ⊢ iprop(ptA c (col c) i (Ring.shares3 fullShare 0) (gathAt m c)
      ∗ ptA c (col c) i (Ring.shares3 fullShare 1) (gathAt m c) ∗ ptA c (col c) i (Ring.shares3 fullShare 2) (gathAt m c)) :=
    (Ring.pointsTo_thirds _ _).1
  unfold all3 xL
  iintro ⟨#HR, HO, ⟨H0, H1, H2⟩, HA⟩ Hk
  ihave HA' := h3 $$ HA
  icases HA' with ⟨A0, A1, A2⟩
  unfold sendX
  iapply (sdX_wp m N c 0 i w hw _) $$ [HO H0 A0]
  · iframe HR HO H0 A0
  iintro ⟨HO, H0⟩
  iapply (sdX_wp m N c 1 i w hw _) $$ [HO H1 A1]
  · iframe HR HO H1 A1
  iintro ⟨HO, H1⟩
  iapply (sdX_wp m N c 2 i w hw _) $$ [HO H2 A2]
  · iframe HR HO H2 A2
  iintro ⟨HO, H2⟩
  iapply Hk
  iframe

/-- The positions of a piece's cells in the plane after the exchange, and the four columns' sums of the piece. -/
def X3 (c : Dev nD) (i : Fin 8) (j : Fin 3) : sProp 𝕄 := iprop(at1 c (pcK 2 i j) ∗ at1 c (pcK 3 i j))
def gAll (c : Dev nD) (i : Fin 8) : sProp 𝕄 :=
  iprop(ptA c 0 i fullShare (gathAt m c) ∗ ptA c 1 i fullShare (gathAt m c) ∗ ptA c 2 i fullShare (gathAt m c)
    ∗ ptA c 3 i fullShare (gathAt m c))

theorem col_list (q : Fin 4) : (Finset.univ : Finset (Fin 4)) = [q, flipN 0 q, flipN 1 q, flipN 2 q].toFinset := by
  revert q; decide +kernel

/-- Something held of a column and of its three neighbours is held of all four. -/
theorem four_of_col (Φ : Fin 4 → sProp 𝕄) (q : Fin 4) :
    iprop(Φ q ∗ Φ (flipN 0 q) ∗ Φ (flipN 1 q) ∗ Φ (flipN 2 q)) = iprop(Φ 0 ∗ Φ 1 ∗ Φ 2 ∗ Φ 3) := by
  have e := BI.bigSep_univ_eq_bigSepL (Φ := Φ) [0, 1, 2, 3] (by decide) (by decide)
  have e' := BI.bigSep_univ_eq_bigSepL (Φ := Φ) [q, flipN 0 q, flipN 1 q, flipN 2 q] (col_list q) (col_nodup q)
  exact e'.symm.trans e

/-- After the waits the device's own third shares come together and the peers' pieces are there. -/
theorem x2_open (c : Dev nD) (i : Fin 8) : all3 (X2 m c i) ⊢ iprop(all3 (X3 (F := F) c i) ∗ gAll m c i) := by
  have h3 : iprop(ptA c (col c) i (Ring.shares3 fullShare 0) (gathAt m c)
      ∗ ptA c (col c) i (Ring.shares3 fullShare 1) (gathAt m c) ∗ ptA c (col c) i (Ring.shares3 fullShare 2) (gathAt m c))
      ⊢ (ptA c (col c) i fullShare (gathAt m c) : sProp 𝕄) :=
    (Ring.pointsTo_thirds _ _).2
  have h4 := Entails.of_eq (four_of_col (fun q => ptA c q i fullShare (gathAt m c)) (col c))
  unfold all3 X2 X3 gAll
  rw [col_pl, col_pl, col_pl]
  iintro ⟨⟨Ha, Hb, HS, HD⟩, ⟨Ha', Hb', HS', HD'⟩, ⟨Ha'', Hb'', HS'', HD''⟩⟩
  isplitl [Ha Hb Ha' Hb' Ha'' Hb'']
  · iframe
  iapply h4
  isplitl [HS HS' HS'']
  · iapply h3; iframe
  iframe

/-- A piece waited for from the three peers in the plane. -/
theorem waitX_wp {K : Prog (TpuEff nD τ sig (Elt F) Λ₀ .tc) PUnit} {Q : PUnit → sProp 𝕄} (c : Dev nD) (i : Fin 8) (w : WdOff) (l : List (Dev nD × Cell)) (hl : above 20 l = true) (hl' : above 0 l = true) :
    iprop(recs m N ∗ Ow c l ∗ all3 (X1 c i))
      ⊢ iprop(((Ow c l ∗ all3 (X3 c i) ∗ gAll m c i) -∗ WP c K Q) -∗ WP c (waitX i w K) Q) := by
  have hx := x2_open m c i
  iintro ⟨#HR, HO, H⟩ Hk
  unfold waitX
  unfold all3 at hx ⊢
  icases H with ⟨H0, H1, H2⟩
  iapply (wtX_wp m N c 0 i w l hl hl') $$ [HO H0]
  · iframe HR HO H0
  iintro ⟨HO, H0⟩
  iapply (wtX_wp m N c 1 i w l hl hl') $$ [HO H1]
  · iframe HR HO H1
  iintro ⟨HO, H1⟩
  iapply (wtX_wp m N c 2 i w l hl hl') $$ [HO H2]
  · iframe HR HO H2
  iintro ⟨HO, H2⟩
  iapply Hk
  isplitl [HO]; · iexact HO
  iapply hx
  iframe

/-- A piece normalised in the four quarters. -/
theorem norm_wp {K : Prog (TpuEff nD τ sig (Elt F) Λ₀ .tc) PUnit} {Q : PUnit → sProp 𝕄} (c : Dev nD) (i : Fin 8) :
    iprop(oD m c (4 * i.val) ∗ gAll m c i)
      ⊢ iprop(((oD m c (4 * i.val + 4) ∗ gAll m c i) -∗ WP c K Q) -∗ WP c (norm (scaleRow (argG m c)) i K) Q) := by
  unfold gAll
  iintro ⟨HO, H0, H1, H2, H3⟩ Hk
  unfold norm
  iapply (nmQ_wp m c 0 i) $$ [HO H0]
  · iframe
  iintro ⟨HO, H0⟩
  iapply (nmQ_wp m c 1 i) $$ [HO H1]
  · iframe
  iintro ⟨HO, H1⟩
  iapply (nmQ_wp m c 2 i) $$ [HO H2]
  · iframe
  iintro ⟨HO, H2⟩
  iapply (nmQ_wp m c 3 i) $$ [HO H3]
  · iframe
  iintro ⟨HO, H3⟩
  iapply Hk
  iframe

/-- One round: piece `i` comes in along z while piece `i'` is started; it is summed and sent on in the plane. -/
theorem step_wp {K : Prog (TpuEff nD τ sig (Elt F) Λ₀ .tc) PUnit} {Q : PUnit → sProp 𝕄} (c : Dev nD) (i i' : Fin 8) (l : List (Dev nD × Cell)) (p : PkOff) (w : WdOff)
    (hp : p.o = ![(col c).val, 64 * i.val, 0]) (hw : w.o = ![(col c).val, 64 * i.val, 0])
    (hl : above (2 + i.val) (zL c i' (xL c i l)) = true) (hl' : above 0 (zL c i' (xL c i l)) = true) :
    iprop(recs m N ∗ Ow c (zL c i' (xL c i l)) ∗ all3 (Z1 c i) ∗ all3 (Z0 c i') ∗ all3 (X0 c i) ∗ (∃ f, ptA c (col c) i fullShare f)
        ∗ oW c (rowsAt m c))
      ⊢ iprop(((Ow c l ∗ all3 (Z2 m c i) ∗ all3 (Z1 c i') ∗ all3 (X1 c i) ∗ oW c (rowsAt m c)) -∗ WP c K Q)
          -∗ WP c (step i i' (up 0 c) (up 1 c) (up 2 c) p w (pl 0 c) (pl 1 c) (pl 2 c) K) Q) := by
  iintro ⟨#HR, HO, HZ, HZ', HX, HA, Hw⟩ Hk
  unfold step
  iapply (waitZ_wp m N c i _ hl hl') $$ [HO HZ]
  · iframe HR HO HZ
  iintro ⟨HO, HZ⟩
  iapply (startZ_wp m N c i' _) $$ [HO HZ' Hw]
  · iframe HR HO HZ' Hw
  iintro ⟨HO, HZ', Hw⟩
  iapply (sumB_wp m c i p hp) $$ [Hw HZ HA]
  · iframe Hw HZ HA
  iintro ⟨Hw, HZ, HA⟩
  iapply (sendX_wp m N c i w hw l) $$ [HO HX HA]
  · iframe HR HO HX HA
  iintro ⟨HO, HX⟩
  iapply Hk
  iframe

/-- The last round. -/
theorem stepL_wp {K : Prog (TpuEff nD τ sig (Elt F) Λ₀ .tc) PUnit} {Q : PUnit → sProp 𝕄} (c : Dev nD) (i : Fin 8) (l : List (Dev nD × Cell)) (p : PkOff) (w : WdOff)
    (hp : p.o = ![(col c).val, 64 * i.val, 0]) (hw : w.o = ![(col c).val, 64 * i.val, 0])
    (hl : above (2 + i.val) (xL c i l) = true) (hl' : above 0 (xL c i l) = true) :
    iprop(recs m N ∗ Ow c (xL c i l) ∗ all3 (Z1 c i) ∗ all3 (X0 c i) ∗ (∃ f, ptA c (col c) i fullShare f) ∗ oW c (rowsAt m c))
      ⊢ iprop(((Ow c l ∗ all3 (Z2 m c i) ∗ all3 (X1 c i) ∗ oW c (rowsAt m c)) -∗ WP c K Q)
          -∗ WP c (stepL i p w (pl 0 c) (pl 1 c) (pl 2 c) K) Q) := by
  iintro ⟨#HR, HO, HZ, HX, HA, Hw⟩ Hk
  unfold stepL
  iapply (waitZ_wp m N c i _ hl hl') $$ [HO HZ]
  · iframe HR HO HZ
  iintro ⟨HO, HZ⟩
  iapply (sumB_wp m c i p hp) $$ [Hw HZ HA]
  · iframe Hw HZ HA
  iintro ⟨Hw, HZ, HA⟩
  iapply (sendX_wp m N c i w hw l) $$ [HO HX HA]
  · iframe HR HO HX HA
  iintro ⟨HO, HX⟩
  iapply Hk
  iframe

/-- A piece waited for in the plane and normalised. -/
theorem fin_wp {K : Prog (TpuEff nD τ sig (Elt F) Λ₀ .tc) PUnit} {Q : PUnit → sProp 𝕄} (c : Dev nD) (i : Fin 8) (w : WdOff) (l : List (Dev nD × Cell)) (hl : above 20 l = true) (hl' : above 0 l = true) :
    iprop(recs m N ∗ Ow c l ∗ all3 (X1 c i) ∗ oD m c (4 * i.val))
      ⊢ iprop(((Ow c l ∗ all3 (X3 c i) ∗ gAll m c i ∗ oD m c (4 * i.val + 4)) -∗ WP c K Q)
          -∗ WP c (fin i w (scaleRow (argG m c)) K) Q) := by
  iintro ⟨#HR, HO, HX, HD⟩ Hk
  unfold fin
  iapply (waitX_wp m N c i w l hl hl') $$ [HO HX]
  · iframe HR HO HX
  iintro ⟨HO, HX, HG⟩
  iapply (norm_wp m c i) $$ [HD HG]
  · iframe HD HG
  iintro ⟨HD, HG⟩
  iapply Hk
  iframe

/-! ## The two exchanges of signals -/

/-- What a device's six signals to the peers' cells `b` hand over: what each peer's duty asks for. -/
def sixG (c : Dev nD) (b : Bool) : sProp 𝕄 :=
  iprop(all3 (fun j => iprop(tok (up j c) (.inl b) (false, opp j) ∗ pay m (up j c) (.inl b) (false, opp j)))
    ∗ all3 (fun j => iprop(tok (pl j c) (.inl b) (true, j) ∗ pay m (pl j c) (.inl b) (true, j))))

theorem sig6_wp {K : Prog (TpuEff nD τ sig (Elt F) Λ₀ .tc) PUnit} {Q : PUnit → sProp 𝕄} (c : Dev nD) (b : Bool) {s : Sem sig} (hs : cellSem (.inl b) = .reg s) (l : List (Dev nD × Cell)) :
    iprop(recs m N ∗ Ow c (six c (.inl b) ++ l) ∗ sixG m c b)
      ⊢ iprop((Ow c l -∗ WP c K Q) -∗ WP c (sig6 s (up 0 c) (up 1 c) (up 2 c) (pl 0 c) (pl 1 c) (pl 2 c) K) Q) := by
  show iprop(_ ∗ Ow c ((up 0 c, .inl b) :: (up 1 c, .inl b) :: (up 2 c, .inl b) :: (pl 0 c, .inl b) :: (pl 1 c, .inl b) :: (pl 2 c, .inl b) :: l) ∗ _) ⊢ _
  unfold sixG all3
  iintro ⟨#HR, HO, ⟨⟨T0, P0⟩, ⟨T1, P1⟩, ⟨T2, P2⟩⟩, ⟨⟨T3, P3⟩, ⟨T4, P4⟩, ⟨T5, P5⟩⟩⟩ Hk
  unfold sig6
  iapply (wp_sg m N c (up 0 c) b hs (false, opp 0) _) $$ [HO T0 P0]
  · iframe HR HO T0 P0
  iintro HO
  iapply (wp_sg m N c (up 1 c) b hs (false, opp 1) _) $$ [HO T1 P1]
  · iframe HR HO T1 P1
  iintro HO
  iapply (wp_sg m N c (up 2 c) b hs (false, opp 2) _) $$ [HO T2 P2]
  · iframe HR HO T2 P2
  iintro HO
  iapply (wp_sg m N c (pl 0 c) b hs (true, 0) _) $$ [HO T3 P3]
  · iframe HR HO T3 P3
  iintro HO
  iapply (wp_sg m N c (pl 1 c) b hs (true, 1) _) $$ [HO T4 P4]
  · iframe HR HO T4 P4
  iintro HO
  iapply (wp_sg m N c (pl 2 c) b hs (true, 2) _) $$ [HO T5 P5]
  · iframe HR HO T5 P5
  iintro HO
  iapply Hk
  iexact HO

/-- What the six peers' signals bring. -/
def sixR (c : Dev nD) (b : Bool) : sProp 𝕄 :=
  iprop(all3 (fun j => pay m c (.inl b) (false, j)) ∗ all3 (fun j => pay m c (.inl b) (true, j)))

theorem sw_wp {K : Prog (TpuEff nD τ sig (Elt F) Λ₀ .tc) PUnit} {Q : PUnit → sProp 𝕄} (c : Dev nD) (b : Bool) {s : Sem sig} (hs : cellSem (.inl b) = .reg s) (l : List (Dev nD × Cell))
    (hl : above (lvK (.inl b)) l = true) :
    iprop(recs m N ∗ Ow c l ∗ at0 c (.inl b) ∗ cr c (.inl b))
      ⊢ iprop(((Ow c l ∗ at1 c (.inl b) ∗ sixR m c b) -∗ WP c K Q) -∗ WP c (sw s K) Q) := by
  have h6 : (bigSep ((rd (F := F) m).duties (kcell c (.inl b)) 0 \ ∅) (fun d => (rd (F := F) m).payload (kcell c (.inl b)) 0 d))
      ⊢ sixR m c b := by
    have e := BI.bigSep_univ_eq_bigSepL (Φ := fun d : Duty => pay m c (.inl b) d)
      [(false, 0), (false, 1), (false, 2), (true, 0), (true, 1), (true, 2)] (by decide) (by decide)
    rw [rd_rest_six, e]
    show iprop(pay m c (.inl b) (false, 0) ∗ pay m c (.inl b) (false, 1) ∗ pay m c (.inl b) (false, 2)
      ∗ pay m c (.inl b) (true, 0) ∗ pay m c (.inl b) (true, 1) ∗ pay m c (.inl b) (true, 2)) ⊢ _
    unfold sixR all3
    dsimp only
    iintro ⟨H0, H1, H2, H3, H4, H5⟩
    iframe
  iintro ⟨#HR, HO, Ha, Hc⟩ Hk
  unfold sw
  iapply (wp_wt m N c (.inl b) hs (k' := 6) rfl (wpE_semWait_eq 𝒱₀ (c : Thread nD τ) none Set.univ) l hl) $$ [HO Ha Hc]
  · iframe HR HO Ha Hc
  iintro ⟨HO, Ha, HP⟩
  iapply Hk
  isplitl [HO]; · iexact HO
  isplitl [Ha]; · iexact Ha
  iapply h6
  iexact HP

end Cert.KernelIdeal.Rms

end
-- ==== Proof.Ideal.Body.lean ====
/- The body of the kernel on one device, from its opening copies to the closing exchange of signals. -/
module

public import proofs.«01_k».proof.Proof.Ideal.Steps

@[expose] public section

set_option backward.proofsInPublic true

noncomputable section

namespace Cert.KernelIdeal.Rms

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (N : Names)

/-! ## The body with its peers named -/

theorem openB_eq (c : Dev nD) (K : Prog (TpuEff nD τ sig (Elt F) Λ₀ .tc) PUnit) : openB c K =
    (cpB 0 (xof c 0) <| cpB 1 (xof c 1) <| cpB 2 (xof c 2) <| cpB 3 (xof c 3) <|
      sig6 barS (up 0 c) (up 1 c) (up 2 c) (pl 0 c) (pl 1 c) (pl 2 c) <| sw barS <|
      cpW 0 (xof c 0) <| cpW 1 (xof c 1) <| cpW 2 (xof c 2) <| cpW 3 (xof c 3) K) := by
  unfold openB
  simp only [dv_eq]
  rfl

theorem midB_eq (c : Dev nD) (K : Prog (TpuEff nD τ sig (Elt F) Λ₀ .tc) PUnit) : midB c K =
    (startZ 0 (up 0 c) (up 1 c) (up 2 c) <|
      step 0 1 (up 0 c) (up 1 c) (up 2 c) (pko c 0) (wdo c 0) (pl 0 c) (pl 1 c) (pl 2 c) <|
      step 1 2 (up 0 c) (up 1 c) (up 2 c) (pko c 1) (wdo c 1) (pl 0 c) (pl 1 c) (pl 2 c) <|
      step 2 3 (up 0 c) (up 1 c) (up 2 c) (pko c 2) (wdo c 2) (pl 0 c) (pl 1 c) (pl 2 c) <|
      step 3 4 (up 0 c) (up 1 c) (up 2 c) (pko c 3) (wdo c 3) (pl 0 c) (pl 1 c) (pl 2 c) <|
      step 4 5 (up 0 c) (up 1 c) (up 2 c) (pko c 4) (wdo c 4) (pl 0 c) (pl 1 c) (pl 2 c) <|
      step 5 6 (up 0 c) (up 1 c) (up 2 c) (pko c 5) (wdo c 5) (pl 0 c) (pl 1 c) (pl 2 c) <|
      step 6 7 (up 0 c) (up 1 c) (up 2 c) (pko c 6) (wdo c 6) (pl 0 c) (pl 1 c) (pl 2 c) <|
      stepL 7 (pko c 7) (wdo c 7) (pl 0 c) (pl 1 c) (pl 2 c) K) := by
  unfold midB
  simp only [dv_eq]
  rfl

theorem prog_eq (c : Dev nD) : prog (F := F) c = (openB c <| midB c <| endB c <|
    sig6 finS (up 0 c) (up 1 c) (up 2 c) (pl 0 c) (pl 1 c) (pl 2 c) <| sw finS <| .ret ⟨⟩) := by
  unfold prog
  simp only [dv_eq]
  rfl

/-! ## The copies -/

/-- What a device's copy takes, and what is left of it after the wait. -/
def cpG (c : Dev nD) (k : Fin 4) : sProp 𝕄 :=
  iprop(tok c (cpK k) d₀ ∗ at0 c (cpK k) ∗ (∃ f, ptQ c k f) ∗ ptX c k (argX m c))
def cpM (c : Dev nD) (k : Fin 4) : sProp 𝕄 := iprop(at0 c (cpK k) ∗ cr c (cpK k))
def cpD (c : Dev nD) (k : Fin 4) : sProp 𝕄 := iprop(at1 c (cpK k) ∗ ptQ c k (rowsAt m c) ∗ ptX c k (argX m c))

/-- A family over the four quarters. -/
def all4 (Φ : Fin 4 → sProp 𝕄) : sProp 𝕄 := iprop(Φ 0 ∗ Φ 1 ∗ Φ 2 ∗ Φ 3)

theorem ptQ_copied (c : Dev nD) (k : Fin 4) (f : (cc0_stg1_0 : Ref sig .tc).ty.Contents (Elt F)) :
    (ptQ c k ((oQ k).view.write (Elt F) f ((xP (xof c k)).view.read (Elt F) (argX m c)) Finset.univ) : sProp 𝕄) = ptQ c k (rowsAt m c) :=
  pointsTo_congr (oQ_copied m c k f)
theorem pay_cp (c : Dev nD) (k : Fin 4) : pay m c (.inr (.inl k)) d₀ = iprop(ptQ c k (rowsAt m c) ∗ ptX c k (argX m c)) := rfl

theorem cpB_wp {K : Prog (TpuEff nD τ sig (Elt F) Λ₀ .tc) PUnit} {Q : PUnit → sProp 𝕄} (c : Dev nD) (k : Fin 4) :
    iprop(recs m N ∗ cpG m c k) ⊢ iprop((cpM (F := F) c k -∗ WP c K Q) -∗ WP c (cpB k (xof c k) K) Q) := by
  unfold cpG cpM
  iintro ⟨#HR, Ht, Ha, ⟨%f, HD⟩, HS⟩ Hk
  unfold cpB
  have h : iprop(((oQ k).view.loc (c : Thread nD τ) ↦[(oQ k).view.set]{fullShare}
        ((oQ k).view.write (Elt F) f ((xP (xof c k)).view.read (Elt F) (argX m c)) Finset.univ))
      ∗ ((xP (xof c k)).view.loc (c : Thread nD τ) ↦[(xP (xof c k)).view.set]{sh4 k} (argX m c))) ⊢ pay m c (cpK k) d₀ := by
    rw [oQ_set, pay_cp, ← ptQ_copied m c k f]
    exact .rfl
  iapply (wp_cp m N c k (s := .dma (cpS k)) rfl (src := xP (xof c k)) (dst := oQ k) (credit_oM k) (argX m c) f h) $$ [Ht HD HS]
  · isplitr; · iexact HR
    isplitl [Ht]; · iexact Ht
    isplitl [HS]; · unfold ptX; iexact HS
    rw [oQ_set]; unfold ptQ; iexact HD
  iintro Hc
  iapply Hk
  iframe

theorem cpW_wp {K : Prog (TpuEff nD τ sig (Elt F) Λ₀ .tc) PUnit} {Q : PUnit → sProp 𝕄} (c : Dev nD) (k : Fin 4) (l : List (Dev nD × Cell)) (hl : above 0 l = true) :
    iprop(recs m N ∗ Ow c l ∗ cpM (F := F) c k) ⊢ iprop(((Ow c l ∗ cpD m c k) -∗ WP c K Q) -∗ WP c (cpW k (xof c k) K) Q) := by
  unfold cpM cpD
  iintro ⟨#HR, HO, Ha, Hc⟩ Hk
  unfold cpW
  iapply (wp_wt1 m N c (.inl k) (sm := .dma (cpS k)) rfl (k' := (oQ k).view.dmaCredit) (credit_oM k)
    (wpE_waitDma2_eq 𝒱₀ (c : Thread nD τ) none Set.univ) l hl) $$ [HO Ha Hc]
  · iframe HR HO Ha Hc
  iintro ⟨HO, Ha, HP⟩
  iapply Hk
  isplitl [HO]; · iexact HO
  isplitl [Ha]; · iexact Ha
  rw [← pay_cp]
  iexact HP

/-- The four quarters make the whole staging buffer. -/
theorem quarters (c : Dev nD) (f : Buf (Elt F) ((c : Thread nD τ).loc cc0_stg1_0)) : all4 (fun k => ptQ c k f) = oW c f := by
  have e := Ring.pointsTo_blocks (Ix := Unit) (Name := ℕ) (U := UU) (Lvl := ℕ) (Val := Elt F) (ℓ := (c : Thread nD τ).loc cc0_stg1_0) IQ IQ_disjoint IQ_cover (q := fullShare) f
  have e' := BI.bigSep_univ_eq_bigSepL (Φ := fun k : Fin 4 => (ptQ c k f : sProp 𝕄)) [0, 1, 2, 3] (by decide) (by decide)
  exact (e.trans e').symm

/-- The opening: the copies, the barrier and the waits for the copies. -/
theorem openB_wp {K : Prog (TpuEff nD τ sig (Elt F) Λ₀ .tc) PUnit} {Q : PUnit → sProp 𝕄} (c : Dev nD) :
    iprop(recs m N ∗ Ow c (owedA c) ∗ all4 (cpG m c) ∗ sixG m c false ∗ at0 c barK ∗ cr c barK)
      ⊢ iprop(((Ow c (zL c 0 (owed0 c)) ∗ all4 (fun k => iprop(at1 c (cpK k) ∗ ptX c k (argX m c))) ∗ oW c (rowsAt m c)
          ∗ at1 c barK ∗ sixR m c false) -∗ WP c K Q) -∗ WP c (openB c K) Q) := by
  have hq := Entails.of_eq (quarters (F := F) c (rowsAt m c))
  unfold all4 at hq ⊢
  dsimp only at hq ⊢
  rw [openB_eq]
  unfold owedA
  iintro ⟨#HR, HO, ⟨C0, C1, C2, C3⟩, HG, Ha, Hc⟩ Hk
  iapply (cpB_wp m N c 0) $$ [C0]
  · iframe HR C0
  iintro C0
  iapply (cpB_wp m N c 1) $$ [C1]
  · iframe HR C1
  iintro C1
  iapply (cpB_wp m N c 2) $$ [C2]
  · iframe HR C2
  iintro C2
  iapply (cpB_wp m N c 3) $$ [C3]
  · iframe HR C3
  iintro C3
  iapply (sig6_wp m N c false (s := barS) rfl (zL c 0 (owed0 c))) $$ [HO HG]
  · iframe HR HO HG
  iintro HO
  iapply (sw_wp m N c false (s := barS) rfl (zL c 0 (owed0 c)) rfl) $$ [HO Ha Hc]
  · iframe HR HO Ha Hc
  iintro ⟨HO, Ha, HS⟩
  iapply (cpW_wp m N c 0 (zL c 0 (owed0 c)) rfl) $$ [HO C0]
  · iframe HR HO C0
  iintro ⟨HO, C0⟩
  iapply (cpW_wp m N c 1 (zL c 0 (owed0 c)) rfl) $$ [HO C1]
  · iframe HR HO C1
  iintro ⟨HO, C1⟩
  iapply (cpW_wp m N c 2 (zL c 0 (owed0 c)) rfl) $$ [HO C2]
  · iframe HR HO C2
  iintro ⟨HO, C2⟩
  iapply (cpW_wp m N c 3 (zL c 0 (owed0 c)) rfl) $$ [HO C3]
  · iframe HR HO C3
  iintro ⟨HO, C3⟩
  unfold cpD
  icases C0 with ⟨A0, Q0, X0⟩
  icases C1 with ⟨A1, Q1, X1⟩
  icases C2 with ⟨A2, Q2, X2⟩
  icases C3 with ⟨A3, Q3, X3⟩
  iapply Hk
  isplitl [HO]; · iexact HO
  isplitl [A0 A1 A2 A3 X0 X1 X2 X3]
  · iframe
  isplitl [Q0 Q1 Q2 Q3]
  · iapply hq; iframe
  iframe

/-! ## The rounds -/

/-- A family over the eight pieces. -/
def all8 (Φ : Fin 8 → sProp 𝕄) : sProp 𝕄 := iprop(Φ 0 ∗ Φ 1 ∗ Φ 2 ∗ Φ 3 ∗ Φ 4 ∗ Φ 5 ∗ Φ 6 ∗ Φ 7)

/-- What the rounds take of a piece, and what they leave. -/
def pG (c : Dev nD) (i : Fin 8) : sProp 𝕄 := iprop(all3 (Z0 (F := F) c i) ∗ all3 (X0 (F := F) c i) ∗ (∃ f, ptA c (col c) i fullShare f))
def pM (c : Dev nD) (i : Fin 8) : sProp 𝕄 := iprop(all3 (Z2 m c i) ∗ all3 (X1 (F := F) c i))

theorem midB_wp {K : Prog (TpuEff nD τ sig (Elt F) Λ₀ .tc) PUnit} {Q : PUnit → sProp 𝕄} (c : Dev nD) :
    iprop(recs m N ∗ Ow c (zL c 0 (owed0 c)) ∗ all8 (pG (F := F) c) ∗ oW c (rowsAt m c))
      ⊢ iprop(((Ow c (six c finK) ∗ all8 (pM m c) ∗ oW c (rowsAt m c)) -∗ WP c K Q) -∗ WP c (midB c K) Q) := by
  unfold all8 pG pM
  rw [midB_eq]
  iintro ⟨#HR, HO, ⟨⟨Z0, X0, A0⟩, ⟨Z1, X1, A1⟩, ⟨Z2, X2, A2⟩, ⟨Z3, X3, A3⟩, ⟨Z4, X4, A4⟩, ⟨Z5, X5, A5⟩, ⟨Z6, X6, A6⟩, ⟨Z7, X7, A7⟩⟩, Hw⟩ Hk
  iapply (startZ_wp m N c 0 (owed0 c)) $$ [HO Z0 Hw]
  · iframe HR HO Z0 Hw
  iintro ⟨HO, Z0, Hw⟩
  iapply (step_wp m N c 0 1 (owed1 c) (pko c 0) (wdo c 0) (pko_eq c 0) (wdo_eq c 0) rfl rfl) $$ [HO Z0 Z1 X0 A0 Hw]
  · isplitr; · iexact HR
    isplitl [HO]; · iexact HO
    iframe
  iintro ⟨HO, Z0, Z1, X0, Hw⟩
  iapply (step_wp m N c 1 2 (owed2 c) (pko c 1) (wdo c 1) (pko_eq c 1) (wdo_eq c 1) rfl rfl) $$ [HO Z1 Z2 X1 A1 Hw]
  · isplitr; · iexact HR
    isplitl [HO]; · iexact HO
    iframe
  iintro ⟨HO, Z1, Z2, X1, Hw⟩
  iapply (step_wp m N c 2 3 (owed3 c) (pko c 2) (wdo c 2) (pko_eq c 2) (wdo_eq c 2) rfl rfl) $$ [HO Z2 Z3 X2 A2 Hw]
  · isplitr; · iexact HR
    isplitl [HO]; · iexact HO
    iframe
  iintro ⟨HO, Z2, Z3, X2, Hw⟩
  iapply (step_wp m N c 3 4 (owed4 c) (pko c 3) (wdo c 3) (pko_eq c 3) (wdo_eq c 3) rfl rfl) $$ [HO Z3 Z4 X3 A3 Hw]
  · isplitr; · iexact HR
    isplitl [HO]; · iexact HO
    iframe
  iintro ⟨HO, Z3, Z4, X3, Hw⟩
  iapply (step_wp m N c 4 5 (owed5 c) (pko c 4) (wdo c 4) (pko_eq c 4) (wdo_eq c 4) rfl rfl) $$ [HO Z4 Z5 X4 A4 Hw]
  · isplitr; · iexact HR
    isplitl [HO]; · iexact HO
    iframe
  iintro ⟨HO, Z4, Z5, X4, Hw⟩
  iapply (step_wp m N c 5 6 (owed6 c) (pko c 5) (wdo c 5) (pko_eq c 5) (wdo_eq c 5) rfl rfl) $$ [HO Z5 Z6 X5 A5 Hw]
  · isplitr; · iexact HR
    isplitl [HO]; · iexact HO
    iframe
  iintro ⟨HO, Z5, Z6, X5, Hw⟩
  iapply (step_wp m N c 6 7 (owed7 c) (pko c 6) (wdo c 6) (pko_eq c 6) (wdo_eq c 6) rfl rfl) $$ [HO Z6 Z7 X6 A6 Hw]
  · isplitr; · iexact HR
    isplitl [HO]; · iexact HO
    iframe
  iintro ⟨HO, Z6, Z7, X6, Hw⟩
  iapply (stepL_wp m N c 7 (six c finK) (pko c 7) (wdo c 7) (pko_eq c 7) (wdo_eq c 7) rfl rfl) $$ [HO Z7 X7 A7 Hw]
  · isplitr; · iexact HR
    isplitl [HO]; · iexact HO
    iframe
  iintro ⟨HO, Z7, X7, Hw⟩
  iapply Hk
  iframe

/-! ## The gathering and the normalisation -/

/-- The scale's staging buffer. -/
def gW (c : Dev nD) (f : Buf (Elt F) ((c : Thread nD τ).loc cc0_stg0_0)) : sProp 𝕄 :=
  ((c : Thread nD τ).loc cc0_stg0_0) ↦{fullShare} f

theorem zero1 : (![0] : Fin 1 → Nat) = fun _ => 0 := funext fun a => by fin_cases a; rfl
theorem read_g (f : (cc0_stg0_0 : Ref sig .tc).ty.Contents (Elt F)) :
    gM.view.readAt (Elt F) (Rect.unit (s := S2048) ![0] S2048.size inb_S2048_S2048_0).toLoadRect f = f :=
  Memref.readAt_unit_zero (Elt F) cc0_stg0_0 zero1 _ f

/-- What is left of a piece at the end. -/
def pE (c : Dev nD) (i : Fin 8) : sProp 𝕄 := iprop(all3 (X3 (F := F) c i) ∗ gAll m c i)

theorem endB_wp {K : Prog (TpuEff nD τ sig (Elt F) Λ₀ .tc) PUnit} {Q : PUnit → sProp 𝕄} (c : Dev nD) (l : List (Dev nD × Cell)) (hl : above 20 l = true) (hl' : above 0 l = true) :
    iprop(recs m N ∗ Ow c l ∗ gW c (argG m c) ∗ all8 (fun i => all3 (X1 (F := F) c i)) ∗ oW c (rowsAt m c))
      ⊢ iprop(((Ow c l ∗ gW c (argG m c) ∗ all8 (pE m c) ∗ oW c (outAt m c)) -∗ WP c K Q) -∗ WP c (endB c K) Q) := by
  have h0 : oW c (rowsAt m c) ⊢ oD m c 0 := by
    unfold oD
    iintro H
    iexists (rowsAt m c)
    isplitr; · ipureintro; exact done_zero m c _
    iexact H
  have h32 : oD m c 32 ⊢ oW c (outAt m c) := by
    unfold oD
    iintro ⟨%f, %hf, H⟩
    rw [done_all m c f hf]
    iexact H
  unfold all8 pE gW
  iintro ⟨#HR, HO, HG, ⟨X0, X1, X2, X3, X4, X5, X6, X7⟩, Hw⟩ Hk
  ihave HD := h0 $$ Hw
  unfold endB
  iapply (wp_load 𝒱₀ (c : Thread nD τ) none Set.univ (m := gM) (r := (Rect.unit (s := S2048) ![0] S2048.size inb_S2048_S2048_0).toLoadRect)
    (S := Finset.univ) (q := fullShare) (f := argG m c) (Finset.subset_univ _)) $$ [HG]
  · iexact HG
  iintro HG
  rw [read_g]
  iapply (fin_wp m N c 0 (wdo c 0) l hl hl') $$ [HO X0 HD]
  · isplitr; · iexact HR
    isplitl [HO]; · iexact HO
    isplitl [X0]; · iexact X0
    iexact HD
  iintro ⟨HO, X0, G0, HD⟩
  iapply (fin_wp m N c 1 (wdo c 1) l hl hl') $$ [HO X1 HD]
  · isplitr; · iexact HR
    isplitl [HO]; · iexact HO
    isplitl [X1]; · iexact X1
    iexact HD
  iintro ⟨HO, X1, G1, HD⟩
  iapply (fin_wp m N c 2 (wdo c 2) l hl hl') $$ [HO X2 HD]
  · isplitr; · iexact HR
    isplitl [HO]; · iexact HO
    isplitl [X2]; · iexact X2
    iexact HD
  iintro ⟨HO, X2, G2, HD⟩
  iapply (fin_wp m N c 3 (wdo c 3) l hl hl') $$ [HO X3 HD]
  · isplitr; · iexact HR
    isplitl [HO]; · iexact HO
    isplitl [X3]; · iexact X3
    iexact HD
  iintro ⟨HO, X3, G3, HD⟩
  iapply (fin_wp m N c 4 (wdo c 4) l hl hl') $$ [HO X4 HD]
  · isplitr; · iexact HR
    isplitl [HO]; · iexact HO
    isplitl [X4]; · iexact X4
    iexact HD
  iintro ⟨HO, X4, G4, HD⟩
  iapply (fin_wp m N c 5 (wdo c 5) l hl hl') $$ [HO X5 HD]
  · isplitr; · iexact HR
    isplitl [HO]; · iexact HO
    isplitl [X5]; · iexact X5
    iexact HD
  iintro ⟨HO, X5, G5, HD⟩
  iapply (fin_wp m N c 6 (wdo c 6) l hl hl') $$ [HO X6 HD]
  · isplitr; · iexact HR
    isplitl [HO]; · iexact HO
    isplitl [X6]; · iexact X6
    iexact HD
  iintro ⟨HO, X6, G6, HD⟩
  iapply (fin_wp m N c 7 (wdo c 7) l hl hl') $$ [HO X7 HD]
  · isplitr; · iexact HR
    isplitl [HO]; · iexact HO
    isplitl [X7]; · iexact X7
    iexact HD
  iintro ⟨HO, X7, G7, HD⟩
  iapply Hk
  isplitl [HO]; · iexact HO
  isplitl [HG]; · iexact HG
  isplitr [HD]
  · iframe
  iapply h32
  iexact HD

/-! ## The whole body -/

/-- What the body starts from, beside what every device knows. -/
def bodyIn (c : Dev nD) : sProp 𝕄 :=
  iprop(Ow c (owedA c) ∗ all4 (cpG m c) ∗ sixG m c false ∗ at0 c barK ∗ cr c barK ∗ sixG m c true ∗ at0 c finK ∗ cr c finK
    ∗ (sixR m c false -∗ all8 (pG (F := F) c)) ∗ gW c (argG m c))
/-- What it ends with. -/
def bodyOut (c : Dev nD) : sProp 𝕄 :=
  iprop(Ow c [] ∗ gW c (argG m c) ∗ oW c (outAt m c) ∗ all4 (fun k => iprop(at1 c (cpK k) ∗ ptX c k (argX m c))) ∗ at1 c barK ∗ at1 c finK
    ∗ all8 (fun i => iprop(all3 (Z2 m c i) ∗ pE m c i)))

theorem body_wp {Q : PUnit → sProp 𝕄} (c : Dev nD) :
    iprop(recs m N ∗ bodyIn m c) ⊢ iprop((bodyOut m c -∗ |={Set.univ}=> Q ⟨⟩) -∗ WP c (prog c) Q) := by
  have hm : all8 (pM m c) ⊢ iprop(all8 (fun i => all3 (Z2 m c i)) ∗ all8 (fun i => all3 (X1 (F := F) c i))) := by
    unfold all8 pM
    iintro ⟨⟨Z0, X0⟩, ⟨Z1, X1⟩, ⟨Z2, X2⟩, ⟨Z3, X3⟩, ⟨Z4, X4⟩, ⟨Z5, X5⟩, ⟨Z6, X6⟩, ⟨Z7, X7⟩⟩
    iframe
  have he : iprop(all8 (fun i => all3 (Z2 m c i)) ∗ all8 (pE m c)) ⊢ all8 (fun i => iprop(all3 (Z2 m c i) ∗ pE m c i)) := by
    unfold all8
    dsimp only
    iintro ⟨⟨Z0, Z1, Z2, Z3, Z4, Z5, Z6, Z7⟩, ⟨X0, X1, X2, X3, X4, X5, X6, X7⟩⟩
    iframe
  unfold bodyIn bodyOut
  rw [prog_eq]
  iintro ⟨#HR, HO, HC, HG, Hb, Hcb, HG', Hf, Hcf, HW, Hg⟩ Hk
  iapply (openB_wp m N c) $$ [HO HC HG Hb Hcb]
  · isplitr; · iexact HR
    iframe
  iintro ⟨HO, HC, Hw, Hb, HS⟩
  ihave HP := HW $$ HS
  iapply (midB_wp m N c) $$ [HO HP Hw]
  · isplitr; · iexact HR
    isplitl [HO]; · iexact HO
    iframe
  iintro ⟨HO, HP, Hw⟩
  ihave HP' := hm $$ HP
  icases HP' with ⟨HZ, HX⟩
  iapply (endB_wp m N c (six c finK) rfl rfl) $$ [HO Hg HX Hw]
  · isplitr; · iexact HR
    isplitl [HO]; · iexact HO
    iframe
  iintro ⟨HO, Hg, HE, Hw⟩
  have e6 : six c finK = six c (.inl true) ++ [] := (List.append_nil _).symm
  rw [e6]
  iapply (sig6_wp m N c true (s := finS) rfl []) $$ [HO HG']
  · isplitr; · iexact HR
    isplitl [HO]; · iexact HO
    iexact HG'
  iintro HO
  iapply (sw_wp m N c true (s := finS) rfl [] rfl) $$ [HO Hf Hcf]
  · isplitr; · iexact HR
    isplitl [HO]; · iexact HO
    isplitl [Hf]; · iexact Hf
    iexact Hcf
  iintro ⟨HO, Hf, -⟩
  unfold WP
  rw [wp_ret]
  iapply Hk
  isplitl [HO]; · iexact HO
  isplitl [Hg]; · iexact Hg
  isplitl [Hw]; · iexact Hw
  isplitl [HC]; · iexact HC
  isplitl [Hb]; · iexact Hb
  isplitl [Hf]; · iexact Hf
  iapply he
  iframe

end Cert.KernelIdeal.Rms

end
-- ==== Proof.Ideal.Ghost.lean ====
/- What the launch deals out: the tokens of the duties, handed round so that each device holds those of the duties it
   fulfils; the positions; the invariants of all cells; the units each device may wait for. -/
module

public import proofs.«01_k».proof.Proof.Ideal.Body

@[expose] public section

set_option backward.proofsInPublic true

noncomputable section

namespace Cert.KernelIdeal.Rms

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The kernel's own semaphores: all cells but the barrier's -/

abbrev Own : Type := {k : Cell // k ≠ barK}
def osem (k : Own) : SemLoc sig := cellSem k.1

theorem cell_ne_stage : ∀ (k : Cell) (w : Fin cfg0.W) (s : Fin _), cellSem k ≠ .dma ((cfg0.spec w).sem s) := by decide +kernel

theorem ownSemFacts : Pipeline.OwnSemFacts cfg0.spec osem where
  isScoped k := (scoped_cellSem k.1).mpr k.2
  inj := fun _ _ h => Subtype.ext (cellSem_inj h)
  disj k w s := cell_ne_stage k.1 w s

/-- The barrier's semaphore is the launch's one unscoped semaphore. -/
theorem unscopedSems0_eq (c : Dev nD) : (unscopedSems0 c : sProp 𝕄) = semVal (kcell c barK) 0 := by
  unfold unscopedSems0
  rw [bigSep_eq_bigSepL_of_eq [SemLoc.reg barS] (by decide +kernel) (by decide)]
  rfl

/-- All cells of a device at zero: the kernel's own and the barrier's. -/
theorem sems0_eq (c : Dev nD) :
    (bigSep Finset.univ fun k : Cell => semVal (kcell c k) 0 : sProp 𝕄)
      = iprop(semVal (kcell c barK) 0 ∗ Pipeline.ownSems0 (Ix := Unit) (Name := ℕ) (U := UU) (Lvl := ℕ) (Val := Elt F) (τ := τ) osem c) := by
  rw [bigSep_univ_at _ barK]
  refine congrArg (fun P : sProp 𝕄 => iprop(semVal (kcell c barK) 0 ∗ P)) ?_
  exact (BI.bigSep_subtype_ne barK fun k : Cell => (semVal (kcell c k) 0 : sProp 𝕄)).symm

/-! ## The cells and the tokens -/

def allCells : Finset (GSem nD τ sig) :=
  Finset.univ.map ⟨fun p : Dev nD × Cell => kcell p.1 p.2, fun p p' h => Prod.ext (kcell_inj h).1 (kcell_inj h).2⟩

/-- The duties of a device's cells: six of each barrier cell, one of each other. -/
abbrev Tok : Type := (Bool × Duty) ⊕ (Fin 4 ⊕ (Fin 4 × Fin 8 × Fin 3))
def tkC : Tok → Cell
  | .inl t => .inl t.1
  | .inr k => .inr k
def tkD : Tok → Duty
  | .inl t => t.2
  | .inr _ => d₀
theorem tk_inj {t t' : Tok} (h : tkC t = tkC t') (h' : tkD t = tkD t') : t = t' := by
  rcases t with ⟨b, d⟩ | k <;> rcases t' with ⟨b', d'⟩ | k'
  · have hb : b = b' := Sum.inl.inj h
    have hd : d = d' := h'
    rw [hb, hd]
  · cases h
  · cases h
  · exact congrArg Sum.inr (Sum.inr.inj h)
def allToks : Finset (GSem nD τ sig × ℕ × Duty) :=
  Finset.univ.map ⟨fun p : Dev nD × Tok => (kcell p.1 (tkC p.2), 0, tkD p.2), fun p p' h => by
    have h1 := kcell_inj (congrArg Prod.fst h)
    exact Prod.ext h1.1 (tk_inj h1.2 (congrArg (fun x => x.2.2) h))⟩

def upE (j : Fin 3) : Dev nD ≃ Dev nD := ⟨up j, dn j, dn_up j, up_dn j⟩
def plE (d : Fin 3) : Dev nD ≃ Dev nD := ⟨pl d, pl d, pl_pl d, pl_pl d⟩
/-- The device for whose cell a device fulfils a duty. -/
def tkE : Tok → (Dev nD ≃ Dev nD)
  | .inl (_, (false, j)) => upE (opp j)
  | .inl (_, (true, d)) => plE d
  | .inr (.inl _) => Equiv.refl _
  | .inr (.inr (0, _, _)) => Equiv.refl _
  | .inr (.inr (1, _, j)) => upE j
  | .inr (.inr (2, _, _)) => Equiv.refl _
  | .inr (.inr (3, _, j)) => plE j

/-- The tokens of a device's own cells, and those of the duties it fulfils. -/
def toks (c : Dev nD) : sProp 𝕄 := bigSep Finset.univ fun t : Tok => tok c (tkC t) (tkD t)
def payToks (c : Dev nD) : sProp 𝕄 := bigSep Finset.univ fun t : Tok => tok (tkE t c) (tkC t) (tkD t)

theorem by_token (Φ : Dev nD → Tok → sProp 𝕄) :
    (bigSep Finset.univ fun c => bigSep Finset.univ fun t => Φ c t) = bigSep Finset.univ fun t => bigSep Finset.univ fun c => Φ c t := by
  rw [← bigSep_univ_prod (fun p : Dev nD × Tok => Φ p.1 p.2), ← bigSep_univ_prod (fun p : Tok × Dev nD => Φ p.2 p.1)]
  exact bigSep_univ_equiv (Equiv.prodComm Tok (Dev nD)) fun p : Dev nD × Tok => Φ p.1 p.2

theorem toks_around : (bigSep Finset.univ fun c : Dev nD => (toks c : sProp 𝕄)) = bigSep Finset.univ fun c : Dev nD => payToks c := by
  unfold toks payToks
  rw [by_token, by_token]
  exact bigSep_congr fun t _ => bigSep_univ_equiv (tkE t) fun c : Dev nD => (tok c (tkC t) (tkD t) : sProp 𝕄)

/-! ## The first global step -/

def u₀ : UU :=
  (initOf (Pipeline.cells cfgs cellOf_inj) (Pipeline.launchToks cfgs cellOf_inj), initOf allCells allToks)

/-- The positions of a device's cells. -/
def ats (c : Dev nD) : sProp 𝕄 := bigSep Finset.univ fun k : Cell => at0 c k

/-- What the launch deals device `c`. -/
def G (c : Dev nD) : sProp 𝕄 :=
  iprop((bigSep Finset.univ fun k : Cell => roundState ER (rd m) (kcell c k) 0)
    ∗ ats c ∗ (bigSep Finset.univ fun k : Cell => reached ER (kcell c k) 0) ∗ toks c)

/-- What every device knows, but for the levels. -/
def recs0 (N : Names) : sProp 𝕄 :=
  iprop((bigSep Finset.univ fun p : Dev nD × Cell => cellInv ER (rd m) (N p) (kcell p.1 p.2))
    ∗ (bigSep Finset.univ fun p : Dev nD × Cell => reached ER (kcell p.1 p.2) 0))
instance recs0_persistent (N : Names) : BI.Persistent (recs0 m N) := by unfold recs0; infer_instance
theorem recs_of (N : Names) : iprop(recs0 m N ∗ levAts L lv) ⊢ recs m N := by
  unfold recs0 recs
  iintro ⟨⟨H1, H2⟩, H3⟩
  iframe

/-- What the global step makes of it: the invariants, the positions, the tokens of the duties that `c` fulfils. -/
def G' (c : Dev nD) : sProp 𝕄 := iprop(∃ N, recs0 m N ∗ ats c ∗ payToks c)

theorem fund_rounds : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cell => Φ (kcell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G ats at0; simp only [bigSep_sep']
  isplitl [Hst']; · iexact Hst'
  isplitl [Hat']; · iexact Hat'
  isplitl [Hr']; · iexact Hr'
  iexact Htok'

/-- One device's cells get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (rd m) κ (kcell c k)))
          ∗ ats c ∗ (bigSep Finset.univ fun k : Cell => reached ER (kcell c k) 0) ∗ toks c) := by
  have hv := Entails.of_eq (sems0_eq (F := F) c).symm
  have hi : iprop((bigSep Finset.univ fun k : Cell => semVal (kcell c k) 0) ∗ bigSep Finset.univ fun k : Cell => roundState ER (rd m) (kcell c k) 0)
      ⊢ (|={Set.univ}=> bigSep Finset.univ fun k : Cell => iprop(∃ κ : ℕ, cellInv ER (rd m) κ (kcell c k)) : sProp 𝕄) := by
    rw [← bigSep_sep']
    exact (bigSep_mono fun k _ => (Rounds.body_intro ER (rd m) (kcell c k)).trans inv_alloc).trans (bigSep_fupd _ _)
  unfold G
  rw [unscopedSems0_eq]
  iintro ⟨Hos, Hus, Hst, Hat, Hr, Htok⟩
  ihave Hv := hv $$ [Hos Hus]
  · iframe
  imod hi $$ [Hv Hst] with Hinv
  · iframe
  imodintro
  iframe

/-- What every device may know, each device has besides what is its own. -/
theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cell => iprop(∃ κ : ℕ, cellInv ER (rd m) κ (kcell c k)))
          ∗ ats c ∗ (bigSep Finset.univ fun k : Cell => reached ER (kcell c k) 0) ∗ toks c) : sProp 𝕄)
      ⊢ bigSep Finset.univ (G' m) := by
  have hN := BI.bigSep_exists_pi Finset.univ (fun (p : Dev nD × Cell) (κ : ℕ) => (cellInv ER (rd m) κ (kcell p.1 p.2) : sProp 𝕄))
  have hG (N : Names) := with_records (S := (Finset.univ : Finset (Dev nD))) (R := recs0 m N)
    (Φ := fun c => iprop(ats c ∗ payToks c)) (Ψ := G' m) fun c _ => by
      unfold G'
      iintro ⟨H, H'⟩
      iexists N
      iframe
  rw [bigSep_sep', bigSep_sep', bigSep_sep', ← bigSep_univ_prod (fun p : Dev nD × Cell => iprop(∃ κ : ℕ, cellInv ER (rd m) κ (kcell p.1 p.2))),
    ← bigSep_univ_prod (fun p : Dev nD × Cell => (reached ER (kcell p.1 p.2) 0 : sProp 𝕄)), toks_around]
  iintro ⟨HI, Hat, Hr, Htok⟩
  ihave HK := hN $$ HI
  icases HK with ⟨%N, HI⟩
  iapply (hG N)
  rw [bigSep_sep']
  unfold recs0
  iframe

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The units a device may wait for -/

abbrev lcr (l : Dev nD → List (Dev nD × Cell)) (c : Dev nD) : sProp 𝕄 := Pipeline.launchCred (fun d => owe (l d)) c

/-- Of one payment, made by every device to the peer that `f` names, each device may wait for what comes to it. -/
theorem lcr_cons (k : Cell) (f : Dev nD ≃ Dev nD) (l' l : Dev nD → List (Dev nD × Cell)) (hl : l' = fun d => (f d, k) :: l d) (c : Dev nD) :
    (lcr l' c : sProp 𝕄) ⊢ iprop(cred (tallyAt (kcell c k) () (amt k)) ∗ lcr l c) := by
  have h : (Pipeline.launchCred (fun d => tallyAt (((f d).tc : Thread nD τ), cellSem k) () (amt k)) c : sProp 𝕄)
      ⊢ cred (tallyAt (kcell c k) () (amt k)) :=
    Pipeline.launchCred_tallyAt (cellSem k) f f.symm f.apply_symm_apply f.symm_apply_apply () (amt k) c
  subst hl
  show (Pipeline.launchCred (fun d => owe (l d) + tallyAt (((f d).tc : Thread nD τ), cellSem k) () (amt k)) c : sProp 𝕄) ⊢ _
  rw [Pipeline.launchCred_add]
  iintro ⟨H1, H2⟩
  ihave H := h $$ H2
  iframe

theorem lcr_z (i : Fin 8) (l : Dev nD → List (Dev nD × Cell)) (c : Dev nD) :
    (lcr (fun d => zL d i (l d)) c : sProp 𝕄) ⊢ iprop(all3 (fun j => cr c (pcK 1 i j)) ∗ lcr l c) := by
  have h0 := lcr_cons (F := F) (pcK 1 i 0) (upE 0) (fun d => zL d i (l d)) (fun d => (up 1 d, pcK 1 i 1) :: (up 2 d, pcK 1 i 2) :: l d) rfl c
  have h1 := lcr_cons (F := F) (pcK 1 i 1) (upE 1) (fun d => (up 1 d, pcK 1 i 1) :: (up 2 d, pcK 1 i 2) :: l d) (fun d => (up 2 d, pcK 1 i 2) :: l d) rfl c
  have h2 := lcr_cons (F := F) (pcK 1 i 2) (upE 2) (fun d => (up 2 d, pcK 1 i 2) :: l d) l rfl c
  unfold all3 cr
  iintro H
  ihave H' := h0 $$ H
  icases H' with ⟨Ha, H⟩
  ihave H' := h1 $$ H
  icases H' with ⟨Hb, H⟩
  ihave H' := h2 $$ H
  icases H' with ⟨Hc, H⟩
  isplitl [Ha Hb Hc]
  · isplitl [Ha]; · iexact Ha
    isplitl [Hb]; · iexact Hb
    iexact Hc
  iexact H

theorem lcr_x (i : Fin 8) (l : Dev nD → List (Dev nD × Cell)) (c : Dev nD) :
    (lcr (fun d => xL d i (l d)) c : sProp 𝕄) ⊢ iprop(all3 (fun j => cr c (pcK 3 i j)) ∗ lcr l c) := by
  have h0 := lcr_cons (F := F) (pcK 3 i 0) (plE 0) (fun d => xL d i (l d)) (fun d => (pl 1 d, pcK 3 i 1) :: (pl 2 d, pcK 3 i 2) :: l d) rfl c
  have h1 := lcr_cons (F := F) (pcK 3 i 1) (plE 1) (fun d => (pl 1 d, pcK 3 i 1) :: (pl 2 d, pcK 3 i 2) :: l d) (fun d => (pl 2 d, pcK 3 i 2) :: l d) rfl c
  have h2 := lcr_cons (F := F) (pcK 3 i 2) (plE 2) (fun d => (pl 2 d, pcK 3 i 2) :: l d) l rfl c
  unfold all3 cr
  iintro H
  ihave H' := h0 $$ H
  icases H' with ⟨Ha, H⟩
  ihave H' := h1 $$ H
  icases H' with ⟨Hb, H⟩
  ihave H' := h2 $$ H
  icases H' with ⟨Hc, H⟩
  isplitl [Ha Hb Hc]
  · isplitl [Ha]; · iexact Ha
    isplitl [Hb]; · iexact Hb
    iexact Hc
  iexact H

theorem lcr_six (b : Bool) (l : Dev nD → List (Dev nD × Cell)) (c : Dev nD) :
    (lcr (fun d => six d (.inl b) ++ l d) c : sProp 𝕄) ⊢ iprop(cr c (.inl b) ∗ lcr l c) := by
  have h0 := lcr_cons (F := F) (.inl b) (upE 0) (fun d => six d (.inl b) ++ l d) (fun d => (up 1 d, .inl b) :: (up 2 d, .inl b) :: (pl 0 d, .inl b) :: (pl 1 d, .inl b) :: (pl 2 d, .inl b) :: l d) rfl c
  have h1 := lcr_cons (F := F) (.inl b) (upE 1) (fun d => (up 1 d, .inl b) :: (up 2 d, .inl b) :: (pl 0 d, .inl b) :: (pl 1 d, .inl b) :: (pl 2 d, .inl b) :: l d) (fun d => (up 2 d, .inl b) :: (pl 0 d, .inl b) :: (pl 1 d, .inl b) :: (pl 2 d, .inl b) :: l d) rfl c
  have h2 := lcr_cons (F := F) (.inl b) (upE 2) (fun d => (up 2 d, .inl b) :: (pl 0 d, .inl b) :: (pl 1 d, .inl b) :: (pl 2 d, .inl b) :: l d) (fun d => (pl 0 d, .inl b) :: (pl 1 d, .inl b) :: (pl 2 d, .inl b) :: l d) rfl c
  have h3 := lcr_cons (F := F) (.inl b) (plE 0) (fun d => (pl 0 d, .inl b) :: (pl 1 d, .inl b) :: (pl 2 d, .inl b) :: l d) (fun d => (pl 1 d, .inl b) :: (pl 2 d, .inl b) :: l d) rfl c
  have h4 := lcr_cons (F := F) (.inl b) (plE 1) (fun d => (pl 1 d, .inl b) :: (pl 2 d, .inl b) :: l d) (fun d => (pl 2 d, .inl b) :: l d) rfl c
  have h5 := lcr_cons (F := F) (.inl b) (plE 2) (fun d => (pl 2 d, .inl b) :: l d) l rfl c
  have hj (a : ℕ) : iprop(cred (tallyAt (kcell c (.inl b)) () a) ∗ cred (tallyAt (kcell c (.inl b)) () (amt (.inl b))))
      ⊢ (cred (tallyAt (kcell c (.inl b)) () (a + 1)) : sProp 𝕄) := by
    rw [← tallyAt_add]; exact (cred_add _ _).2
  unfold cr
  iintro H
  ihave H' := h0 $$ H
  icases H' with ⟨A, H⟩
  ihave H' := h1 $$ H
  icases H' with ⟨A', H⟩
  ihave A := (hj 1) $$ [A A']
  · isplitl [A]; · iexact A
    iexact A'
  ihave H' := h2 $$ H
  icases H' with ⟨A', H⟩
  ihave A := (hj 2) $$ [A A']
  · isplitl [A]; · iexact A
    iexact A'
  ihave H' := h3 $$ H
  icases H' with ⟨A', H⟩
  ihave A := (hj 3) $$ [A A']
  · isplitl [A]; · iexact A
    iexact A'
  ihave H' := h4 $$ H
  icases H' with ⟨A', H⟩
  ihave A := (hj 4) $$ [A A']
  · isplitl [A]; · iexact A
    iexact A'
  ihave H' := h5 $$ H
  icases H' with ⟨A', H⟩
  ihave A := (hj 5) $$ [A A']
  · isplitl [A]; · iexact A
    iexact A'
  isplitl [A]; · iexact A
  iexact H

/-- The units of a device's receipts, of both kinds. -/
def crs (c : Dev nD) (a : Fin 4) : sProp 𝕄 := all8 fun i => all3 fun j => cr c (pcK a i j)

theorem creds (c : Dev nD) :
    (lcr owedA c : sProp 𝕄) ⊢ iprop(cr c barK ∗ cr c finK ∗ crs c 1 ∗ crs c 3) := by
  have hb : (lcr owedA c : sProp 𝕄) ⊢ iprop(cr c barK ∗ lcr (fun d => zL d 0 (owed0 d)) c) := lcr_six false (fun d => zL d 0 (owed0 d)) c
  have hz0 := lcr_z (F := F) 0 owed0 c
  have hz1 : (lcr owed0 c : sProp 𝕄) ⊢ iprop(all3 (fun j => cr c (pcK 1 1 j)) ∗ lcr (fun d => xL d 0 (owed1 d)) c) :=
    lcr_z 1 (fun d => xL d 0 (owed1 d)) c
  have hx0 := lcr_x (F := F) 0 owed1 c
  have hz2 : (lcr owed1 c : sProp 𝕄) ⊢ iprop(all3 (fun j => cr c (pcK 1 2 j)) ∗ lcr (fun d => xL d 1 (owed2 d)) c) :=
    lcr_z 2 (fun d => xL d 1 (owed2 d)) c
  have hx1 := lcr_x (F := F) 1 owed2 c
  have hz3 : (lcr owed2 c : sProp 𝕄) ⊢ iprop(all3 (fun j => cr c (pcK 1 3 j)) ∗ lcr (fun d => xL d 2 (owed3 d)) c) :=
    lcr_z 3 (fun d => xL d 2 (owed3 d)) c
  have hx2 := lcr_x (F := F) 2 owed3 c
  have hz4 : (lcr owed3 c : sProp 𝕄) ⊢ iprop(all3 (fun j => cr c (pcK 1 4 j)) ∗ lcr (fun d => xL d 3 (owed4 d)) c) :=
    lcr_z 4 (fun d => xL d 3 (owed4 d)) c
  have hx3 := lcr_x (F := F) 3 owed4 c
  have hz5 : (lcr owed4 c : sProp 𝕄) ⊢ iprop(all3 (fun j => cr c (pcK 1 5 j)) ∗ lcr (fun d => xL d 4 (owed5 d)) c) :=
    lcr_z 5 (fun d => xL d 4 (owed5 d)) c
  have hx4 := lcr_x (F := F) 4 owed5 c
  have hz6 : (lcr owed5 c : sProp 𝕄) ⊢ iprop(all3 (fun j => cr c (pcK 1 6 j)) ∗ lcr (fun d => xL d 5 (owed6 d)) c) :=
    lcr_z 6 (fun d => xL d 5 (owed6 d)) c
  have hx5 := lcr_x (F := F) 5 owed6 c
  have hz7 : (lcr owed6 c : sProp 𝕄) ⊢ iprop(all3 (fun j => cr c (pcK 1 7 j)) ∗ lcr (fun d => xL d 6 (owed7 d)) c) :=
    lcr_z 7 (fun d => xL d 6 (owed7 d)) c
  have hx6 := lcr_x (F := F) 6 owed7 c
  have hx7 : (lcr owed7 c : sProp 𝕄) ⊢ iprop(all3 (fun j => cr c (pcK 3 7 j)) ∗ lcr (fun d => six d finK) c) :=
    lcr_x 7 (fun d => six d finK) c
  have hf : (lcr (fun d => six d finK) c : sProp 𝕄) ⊢ iprop(cr c finK ∗ lcr (fun _ => []) c) := lcr_six true (fun _ => []) c
  unfold crs all8
  iintro H
  ihave H' := hb $$ H
  icases H' with ⟨B, H⟩
  ihave H' := hz0 $$ H
  icases H' with ⟨Z0, H⟩
  ihave H' := hz1 $$ H
  icases H' with ⟨Z1, H⟩
  ihave H' := hx0 $$ H
  icases H' with ⟨X0, H⟩
  ihave H' := hz2 $$ H
  icases H' with ⟨Z2, H⟩
  ihave H' := hx1 $$ H
  icases H' with ⟨X1, H⟩
  ihave H' := hz3 $$ H
  icases H' with ⟨Z3, H⟩
  ihave H' := hx2 $$ H
  icases H' with ⟨X2, H⟩
  ihave H' := hz4 $$ H
  icases H' with ⟨Z4, H⟩
  ihave H' := hx3 $$ H
  icases H' with ⟨X3, H⟩
  ihave H' := hz5 $$ H
  icases H' with ⟨Z5, H⟩
  ihave H' := hx4 $$ H
  icases H' with ⟨X4, H⟩
  ihave H' := hz6 $$ H
  icases H' with ⟨Z6, H⟩
  ihave H' := hx5 $$ H
  icases H' with ⟨X5, H⟩
  ihave H' := hz7 $$ H
  icases H' with ⟨Z7, H⟩
  ihave H' := hx6 $$ H
  icases H' with ⟨X6, H⟩
  ihave H' := hx7 $$ H
  icases H' with ⟨X7, H⟩
  ihave H' := hf $$ H
  icases H' with ⟨E, -⟩
  isplitl [B]; · iexact B
  isplitl [E]; · iexact E
  dsimp only
  iframe

end Cert.KernelIdeal.Rms

end
-- ==== Proof.Ideal.Start.lean ====
/- From what a device holds at the launch to what its body takes, and from what the body leaves to what the launch wants
   back: families over pieces, peers and columns, taken apart and put together. -/
module

public import proofs.«01_k».proof.Proof.Ideal.Ghost

@[expose] public section

set_option backward.proofsInPublic true

noncomputable section

namespace Cert.KernelIdeal.Rms

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families -/

theorem all3_sep (Φ Ψ : Fin 3 → sProp 𝕄) : all3 (fun j => iprop(Φ j ∗ Ψ j)) = iprop(all3 Φ ∗ all3 Ψ) := by
  unfold all3
  refine BI.Entails.antisymm ?_ ?_
  · dsimp only
    show (_ : sProp 𝕄) ⊢ (_ : sProp 𝕄)
    iintro ⟨⟨A0, B0⟩, ⟨A1, B1⟩, ⟨A2, B2⟩⟩; iframe
  · dsimp only
    show (_ : sProp 𝕄) ⊢ (_ : sProp 𝕄)
    iintro ⟨⟨A0, A1, A2⟩, ⟨B0, B1, B2⟩⟩; iframe
theorem all4_sep (Φ Ψ : Fin 4 → sProp 𝕄) : all4 (fun j => iprop(Φ j ∗ Ψ j)) = iprop(all4 Φ ∗ all4 Ψ) := by
  unfold all4
  refine BI.Entails.antisymm ?_ ?_
  · dsimp only
    show (_ : sProp 𝕄) ⊢ (_ : sProp 𝕄)
    iintro ⟨⟨A0, B0⟩, ⟨A1, B1⟩, ⟨A2, B2⟩, ⟨A3, B3⟩⟩; iframe
  · dsimp only
    show (_ : sProp 𝕄) ⊢ (_ : sProp 𝕄)
    iintro ⟨⟨A0, A1, A2, A3⟩, ⟨B0, B1, B2, B3⟩⟩; iframe
theorem all8_sep (Φ Ψ : Fin 8 → sProp 𝕄) : all8 (fun j => iprop(Φ j ∗ Ψ j)) = iprop(all8 Φ ∗ all8 Ψ) := by
  unfold all8
  refine BI.Entails.antisymm ?_ ?_
  · dsimp only
    show (_ : sProp 𝕄) ⊢ (_ : sProp 𝕄)
    iintro ⟨⟨A0, B0⟩, ⟨A1, B1⟩, ⟨A2, B2⟩, ⟨A3, B3⟩, ⟨A4, B4⟩, ⟨A5, B5⟩, ⟨A6, B6⟩, ⟨A7, B7⟩⟩; iframe
  · dsimp only
    show (_ : sProp 𝕄) ⊢ (_ : sProp 𝕄)
    iintro ⟨⟨A0, A1, A2, A3, A4, A5, A6, A7⟩, ⟨B0, B1, B2, B3, B4, B5, B6, B7⟩⟩; iframe

theorem all3_mono {Φ Ψ : Fin 3 → sProp 𝕄} (h : ∀ j, Φ j ⊢ Ψ j) : all3 Φ ⊢ all3 Ψ := by
  have h0 := h 0
  have h1 := h 1
  have h2 := h 2
  unfold all3
  iintro ⟨A0, A1, A2⟩
  isplitl [A0]; · iapply h0; iexact A0
  isplitl [A1]; · iapply h1; iexact A1
  iapply h2; iexact A2
theorem big3 (Φ : Fin 3 → sProp 𝕄) : bigSep Finset.univ Φ = all3 Φ := bigSep_univ_eq_bigSepL [0, 1, 2] (by decide) (by decide) Φ
theorem big4 (Φ : Fin 4 → sProp 𝕄) : bigSep Finset.univ Φ = all4 Φ := bigSep_univ_eq_bigSepL [0, 1, 2, 3] (by decide) (by decide) Φ
theorem big8 (Φ : Fin 8 → sProp 𝕄) : bigSep Finset.univ Φ = all8 Φ := bigSep_univ_eq_bigSepL [0, 1, 2, 3, 4, 5, 6, 7] (by decide) (by decide) Φ
theorem all8_mono {Φ Ψ : Fin 8 → sProp 𝕄} (h : ∀ j, Φ j ⊢ Ψ j) : all8 Φ ⊢ all8 Ψ := by
  rw [← big8, ← big8]; exact bigSep_mono fun j _ => h j

theorem all8_all3 (Φ : Fin 8 → Fin 3 → sProp 𝕄) : all8 (fun i => all3 (Φ i)) = all3 (fun j => all8 fun i => Φ i j) := by
  show all8 (fun i => iprop(Φ i 0 ∗ Φ i 1 ∗ Φ i 2)) = _
  rw [all8_sep, all8_sep]; rfl
theorem all8_all4 (Φ : Fin 8 → Fin 4 → sProp 𝕄) : all8 (fun i => all4 (Φ i)) = all4 (fun j => all8 fun i => Φ i j) := by
  show all8 (fun i => iprop(Φ i 0 ∗ Φ i 1 ∗ Φ i 2 ∗ Φ i 3)) = _
  rw [all8_sep, all8_sep, all8_sep]; rfl

/-- By piece and peer. -/
abbrev fam (Φ : Fin 8 → Fin 3 → sProp 𝕄) : sProp 𝕄 := all8 fun i => all3 fun j => Φ i j

/-- A family over all cells of a device, by kind. -/
theorem by_cell (Φ : Cell → sProp 𝕄) : bigSep Finset.univ Φ
    = iprop((Φ barK ∗ Φ finK) ∗ all4 (fun k => Φ (cpK k)) ∗ all4 fun a => fam fun i j => Φ (pcK a i j)) := by
  rw [bigSep_univ_sum, bigSep_univ_sum, bigSep_univ_prod, bigSep_univ_eq_bigSepL [false, true] (by decide) (by decide), big4, big4]
  simp only [bigSep_univ_prod, big8, big3]
  rfl

/-- The tokens of a barrier's duties that a device fulfils. -/
def sixT (c : Dev nD) (b : Bool) : sProp 𝕄 :=
  iprop(all3 (fun j => tok (up j c) (.inl b) (false, opp j)) ∗ all3 (fun j => tok (pl j c) (.inl b) (true, j)))

theorem payToks_eq (c : Dev nD) : (payToks c : sProp 𝕄)
    = iprop((sixT c false ∗ sixT c true) ∗ all4 (fun k => tok c (cpK k) d₀)
        ∗ fam (fun i j => tok c (pcK 0 i j) d₀) ∗ fam (fun i j => tok (up j c) (pcK 1 i j) d₀)
        ∗ fam (fun i j => tok c (pcK 2 i j) d₀) ∗ fam (fun i j => tok (pl j c) (pcK 3 i j) d₀)) := by
  have h6 (b : Bool) : (bigSep Finset.univ fun d : Duty => (tok (tkE (.inl (b, d)) c) (.inl b) d : sProp 𝕄)) = sixT c b := by
    have h2 (Φ : Fin 3 → sProp 𝕄) : bigSep Finset.univ Φ = iprop(Φ 2 ∗ Φ 1 ∗ Φ 0) :=
      bigSep_univ_eq_bigSepL [2, 1, 0] (by decide) (by decide) Φ
    rw [bigSep_univ_prod, bigSep_univ_eq_bigSepL [false, true] (by decide) (by decide)]
    show iprop((bigSep Finset.univ fun j : Fin 3 => tok (tkE (.inl (b, (false, j))) c) (.inl b) (false, j))
      ∗ bigSep Finset.univ fun d : Fin 3 => tok (tkE (.inl (b, (true, d))) c) (.inl b) (true, d)) = _
    rw [h2, big3]
    rfl
  unfold payToks
  rw [bigSep_univ_sum, bigSep_univ_sum, bigSep_univ_prod, bigSep_univ_eq_bigSepL [false, true] (by decide) (by decide), big4, bigSep_univ_prod, big4]
  simp only [bigSep_univ_prod, big8, big3]
  rw [← h6, ← h6]
  simp only [bigSep_univ_prod, big3]
  rfl

/-! ## Memory by pieces -/

abbrev wS (c : Dev nD) (f : Buf (Elt F) ((c : Thread nD τ).loc cc0_scratch0)) : sProp 𝕄 := ((c : Thread nD τ).loc cc0_scratch0) ↦{fullShare} f
abbrev wR (c : Dev nD) (f : Buf (Elt F) ((c : Thread nD τ).loc cc0_scratch1)) : sProp 𝕄 := ((c : Thread nD τ).loc cc0_scratch1) ↦{fullShare} f
abbrev wA (c : Dev nD) (f : Buf (Elt F) ((c : Thread nD τ).loc cc0_scratch2)) : sProp 𝕄 := ((c : Thread nD τ).loc cc0_scratch2) ↦{fullShare} f
abbrev wX (c : Dev nD) (f : Buf (Elt F) ((c : Thread nD τ).loc main_arg0)) : sProp 𝕄 := ((c : Thread nD τ).loc main_arg0) ↦{fullShare} f

theorem wS_eq (c : Dev nD) (f) : (wS c f : sProp 𝕄) = fam fun i j => ptS c j i f := by
  have e := Ring.pointsTo_blocks (Ix := Unit) (Name := ℕ) (U := UU) (Lvl := ℕ) (Val := Elt F) (ℓ := (c : Thread nD τ).loc cc0_scratch0)
    IZ IZ_disjoint IZ_cover (q := fullShare) f
  rw [bigSep_univ_prod, big8] at e
  simp only [big3] at e
  exact e
theorem wR_eq (c : Dev nD) (f) : (wR c f : sProp 𝕄) = fam fun i j => ptR c j i f := by
  have e := Ring.pointsTo_blocks (Ix := Unit) (Name := ℕ) (U := UU) (Lvl := ℕ) (Val := Elt F) (ℓ := (c : Thread nD τ).loc cc0_scratch1)
    IZ IZ_disjoint IZ_cover (q := fullShare) f
  rw [bigSep_univ_prod, big8] at e
  simp only [big3] at e
  exact e
theorem wA_eq (c : Dev nD) (f) : (wA c f : sProp 𝕄) = all8 fun i => all4 fun q => ptA c q i fullShare f := by
  have e := Ring.pointsTo_blocks (Ix := Unit) (Name := ℕ) (U := UU) (Lvl := ℕ) (Val := Elt F) (ℓ := (c : Thread nD τ).loc cc0_scratch2)
    IA IA_disjoint IA_cover (q := fullShare) f
  rw [bigSep_univ_prod, big8] at e
  simp only [big4] at e
  exact e

/-- What the copies do not read of the argument, in each of the four shares. -/
def xRest (c : Dev nD) (k : Fin 4) (f : Buf (Elt F) ((c : Thread nD τ).loc main_arg0)) : sProp 𝕄 :=
  ((c : Thread nD τ).loc main_arg0) ↦[Finset.univ \ (xP (xof c k)).view.set]{sh4 k} f

theorem wX_eq (c : Dev nD) (f) : (wX c f : sProp 𝕄) = iprop(all4 (fun k => ptX c k f) ∗ all4 fun k => xRest c k f) := by
  have e (q : PosShare TreeShare) : (((c : Thread nD τ).loc main_arg0) ↦[Finset.univ]{q} f : sProp 𝕄)
      = iprop((((c : Thread nD τ).loc main_arg0) ↦[Finset.univ]{q.left} f) ∗ (((c : Thread nD τ).loc main_arg0) ↦[Finset.univ]{q.right} f)) :=
    have h := pointsTo_share (I := Finset.univ) (f := f) (PosShare.mem_left_op_right q)
    BI.Entails.antisymm h.1 h.2
  have d (k : Fin 4) : (((c : Thread nD τ).loc main_arg0) ↦[Finset.univ]{sh4 k} f : sProp 𝕄) = iprop(ptX c k f ∗ xRest c k f) :=
    have h := pointsTo_split_subset (q := sh4 k) (f := f) (Finset.subset_univ (xP (xof c k)).view.set)
    BI.Entails.antisymm h.1 h.2
  rw [← all4_sep]
  have e4 : (wX c f : sProp 𝕄) = iprop(((((c : Thread nD τ).loc main_arg0) ↦[Finset.univ]{sh4 0} f) ∗ (((c : Thread nD τ).loc main_arg0) ↦[Finset.univ]{sh4 1} f))
      ∗ ((((c : Thread nD τ).loc main_arg0) ↦[Finset.univ]{sh4 2} f) ∗ (((c : Thread nD τ).loc main_arg0) ↦[Finset.univ]{sh4 3} f))) :=
    (e fullShare).trans (congrArg₂ (fun P Q : sProp 𝕄 => iprop(P ∗ Q)) (e fullShare.left) (e fullShare.right))
  rw [e4, d, d, d, d]
  unfold all4
  refine BI.Entails.antisymm ?_ ?_
  · dsimp only
    show (_ : sProp 𝕄) ⊢ (_ : sProp 𝕄)
    iintro ⟨⟨A, B⟩, C, D⟩; iframe
  · dsimp only
    show (_ : sProp 𝕄) ⊢ (_ : sProp 𝕄)
    iintro ⟨A, B, C, D⟩; iframe

/-! ## What the opening signals hand over -/

theorem slabs_R (c : Dev nD) : iprop(∃ f, wR c f) ⊢ (all3 (fun j => slabR c j) : sProp 𝕄) := by
  have h (f) : (wR c f : sProp 𝕄) ⊢ all3 (fun j => slabR c j) := by
    rw [wR_eq, fam, all8_all3]
    refine all3_mono fun j => ?_
    unfold slabR
    rw [big8]
    refine all8_mono fun i => ?_
    iintro H; iexists f; iexact H
  iintro ⟨%f, H⟩
  iapply (h f); iexact H

theorem slabs_A (c : Dev nD) : iprop(∃ f, wA c f)
    ⊢ (iprop(slabA c (col c) ∗ all3 fun d => slabA c (flipN d (col c))) : sProp 𝕄) := by
  have h (f) : (wA c f : sProp 𝕄) ⊢ all4 fun q => slabA c q := by
    rw [wA_eq, all8_all4, ← big4, ← big4]
    refine bigSep_mono fun q _ => ?_
    unfold slabA
    rw [big8]
    refine all8_mono fun i => ?_
    iintro H; iexists f; iexact H
  have h4 : (all4 (fun q => slabA c q) : sProp 𝕄) ⊢ iprop(slabA c (col c) ∗ all3 fun d => slabA c (flipN d (col c))) :=
    Entails.of_eq (four_of_col (fun q => (slabA c q : sProp 𝕄)) (col c)).symm
  iintro ⟨%f, H⟩
  iapply h4
  iapply (h f)
  iexact H

theorem pay_open (c : Dev nD) (j : Fin 3) : pay m (up j c) (.inl false) (false, opp j) = slabR c (opp j) := by
  show slabR (up (opp j) (up j c)) (opp j) = _
  rw [up_opp, dn_up]
theorem pay_open' (c : Dev nD) (d : Fin 3) : pay m (pl d c) (.inl false) (true, d) = slabA c (flipN d (col c)) := by
  show slabA (pl d (pl d c)) (col (pl d c)) = _
  rw [pl_pl, col_pl]

theorem six_open (c : Dev nD) : iprop(sixT c false ∗ (all3 fun j => slabR c j) ∗ all3 fun d => slabA c (flipN d (col c))) ⊢ sixG m c false := by
  unfold sixG sixT
  rw [all3_sep, all3_sep]
  simp only [pay_open, pay_open']
  have h : (all3 (fun j => slabR c j) : sProp 𝕄) ⊢ all3 fun j => slabR c (opp j) := by
    show iprop(slabR c 0 ∗ slabR c 1 ∗ slabR c 2) ⊢ iprop(slabR c 2 ∗ slabR c 1 ∗ slabR c 0)
    iintro ⟨A, B, C⟩; iframe
  iintro ⟨⟨T, T'⟩, R, A⟩
  ihave R := h $$ R
  iframe
theorem six_close (c : Dev nD) : sixT c true ⊢ sixG m c true := by
  unfold sixG sixT
  rw [all3_sep, all3_sep]
  show _ ⊢ iprop((_ ∗ emp ∗ emp ∗ emp) ∗ (_ ∗ emp ∗ emp ∗ emp))
  iintro ⟨T, T'⟩
  isplitl [T]
  · isplitl [T]; · iexact T
    isplitl; · iempintro
    isplitl <;> iempintro
  isplitl [T']; · iexact T'
  isplitl; · iempintro
  isplitl <;> iempintro

/-! ## What the rounds take, once the peers' slabs have come -/

theorem pieces_of (c : Dev nD) :
    iprop(fam (fun i j => tok c (pcK 0 i j) d₀) ∗ fam (fun i j => tok (up j c) (pcK 1 i j) d₀)
        ∗ fam (fun i j => tok c (pcK 2 i j) d₀) ∗ fam (fun i j => tok (pl j c) (pcK 3 i j) d₀)
        ∗ all4 (fun a => fam fun i j => at0 c (pcK a i j)) ∗ crs c 1 ∗ crs c 3
        ∗ fam (fun i j => iprop(∃ f, ptS c j i f)) ∗ slabA c (col c) ∗ sixR m c false)
      ⊢ all8 (pG (F := F) c) := by
  show _ ⊢ all8 fun i => iprop(
    all3 (fun j => iprop(tok c (pcK 0 i j) d₀ ∗ tok (up j c) (pcK 1 i j) d₀ ∗ at0 c (pcK 0 i j) ∗ at0 c (pcK 1 i j) ∗ cr c (pcK 1 i j)
      ∗ (∃ f, ptS c j i f) ∗ (∃ f, ptR (up j c) j i f)))
    ∗ all3 (fun j => iprop(tok c (pcK 2 i j) d₀ ∗ tok (pl j c) (pcK 3 i j) d₀ ∗ at0 c (pcK 2 i j) ∗ at0 c (pcK 3 i j) ∗ cr c (pcK 3 i j)
      ∗ (∃ f, ptA (pl j c) (col c) i fullShare f)))
    ∗ (∃ f, ptA c (col c) i fullShare f))
  simp only [all3_sep, all8_sep]
  have hR : (all3 (fun j => slabR (up j c) j) : sProp 𝕄) = fam fun i j => iprop(∃ f, ptR (up j c) j i f) := by
    rw [fam, all8_all3]; unfold slabR; simp only [big8]
  have hA : (all3 (fun d => slabA (pl d c) (col c)) : sProp 𝕄) = fam fun i j => iprop(∃ f, ptA (pl j c) (col c) i fullShare f) := by
    rw [fam, all8_all3]; unfold slabA; simp only [big8]
  have hO : (slabA c (col c) : sProp 𝕄) = all8 fun i => iprop(∃ f, ptA c (col c) i fullShare f) := by
    unfold slabA; rw [big8]
  have h6 : sixR m c false = iprop(fam (fun i j => iprop(∃ f, ptR (up j c) j i f)) ∗ fam fun i j => iprop(∃ f, ptA (pl j c) (col c) i fullShare f)) := by
    rw [← hR, ← hA]; rfl
  rw [h6, hO]
  unfold all4 crs
  iintro ⟨T0, T1, T2, T3, ⟨A0, A1, A2, A3⟩, C1, C3, S, O, R, A⟩
  iframe

/-! ## In and out -/

/-- What a device holds at the launch, its buffers whole. -/
def held (c : Dev nD) : sProp 𝕄 :=
  iprop(payToks c ∗ ats c ∗ (cr c barK ∗ cr c finK ∗ crs c 1 ∗ crs c 3)
    ∗ ((∃ f, wS c f) ∗ (∃ f, wR c f) ∗ (∃ f, wA c f)) ∗ wX c (argX m c))

/-- What it holds at the end: every cell closed, its buffers whole. -/
def left (c : Dev nD) : sProp 𝕄 :=
  iprop((bigSep Finset.univ fun k : Cell => semVal (kcell c k) 0)
    ∗ ((∃ f, wS c f) ∗ (∃ f, wR c f) ∗ (∃ f, wA c f)) ∗ wX c (argX m c))

theorem body_in (c : Dev nD) :
    iprop(held m c ∗ Ow c (owedA c) ∗ gW c (argG m c) ∗ (∃ f, oW c f))
      ⊢ iprop(bodyIn m c ∗ all4 fun k => xRest c k (argX m c)) := by
  have hS : iprop(∃ f, wS c f) ⊢ (fam (fun i j => iprop(∃ f, ptS c j i f)) : sProp 𝕄) := by
    have h (f) : (wS c f : sProp 𝕄) ⊢ fam (fun i j => iprop(∃ f, ptS c j i f)) := by
      rw [wS_eq]
      exact all8_mono fun i => all3_mono fun j => by iintro H; iexists f; iexact H
    iintro ⟨%f, H⟩
    iapply (h f); iexact H
  have hQ : iprop(∃ f, oW c f) ⊢ (all4 (fun k => iprop(∃ f, ptQ c k f)) : sProp 𝕄) := by
    have h (f) : (oW c f : sProp 𝕄) ⊢ all4 (fun k => iprop(∃ f, ptQ c k f)) := by
      rw [← quarters, ← big4, ← big4]
      exact bigSep_mono fun k _ => by show (_ : sProp 𝕄) ⊢ (_ : sProp 𝕄); iintro H; iexists f; iexact H
    iintro ⟨%f, H⟩
    iapply (h f); iexact H
  have hR := slabs_R (F := F) c
  have hA := slabs_A (F := F) c
  have h6 := six_open m c
  have h6' := six_close m c
  have hP := pieces_of m c
  have hC : all4 (cpG m c) = iprop(all4 (fun k => tok c (cpK k) d₀) ∗ all4 (fun k => at0 c (cpK k)) ∗ all4 (fun k => iprop(∃ f, ptQ c k f))
      ∗ all4 fun k => ptX c k (argX m c)) := by
    show all4 (fun k => iprop(tok c (cpK k) d₀ ∗ at0 c (cpK k) ∗ (∃ f, ptQ c k f) ∗ ptX c k (argX m c))) = _
    rw [all4_sep, all4_sep, all4_sep]
  unfold held bodyIn ats
  rw [payToks_eq, by_cell, wX_eq, hC]
  iintro ⟨⟨⟨⟨T6, T6'⟩, TC, T0, T1, T2, T3⟩, ⟨⟨AB, AF⟩, AC, AP⟩, ⟨CB, CF, C1, C3⟩, ⟨HS, HR, HA⟩, HX, HX'⟩, HO, HG, HW⟩
  ihave HS := hS $$ HS
  ihave HR := hR $$ HR
  ihave HA := hA $$ HA
  icases HA with ⟨HA, HA'⟩
  ihave HQ := hQ $$ HW
  ihave G6 := h6 $$ [T6 HR HA']
  · iframe
  ihave G6' := h6' $$ T6'
  iframe HX' HO TC AC HQ HX G6 AB CB G6' AF CF HG
  iintro HR6
  iapply hP
  iframe

theorem closed (N : Names) (c : Dev nD) :
    iprop(recs m N ∗ bigSep Finset.univ fun k : Cell => at1 c k) ⊢ |={Set.univ}=> bigSep Finset.univ fun k : Cell => semVal (kcell c k) 0 := by
  have h (k : Cell) : iprop(recs m N ∗ at1 c k) ⊢ |={Set.univ}=> semVal (kcell c k) 0 := by
    have hc := Rounds.cell_close ER (rd m) (Set.mem_univ (N (c, k))) (fun h => h) (R := 0 + 1) (rd_later m (kcell c k))
    have hi := recs_inv m N c k
    unfold at1
    iintro ⟨H, H'⟩
    ihave H := hi $$ H
    iapply hc
    iframe
  exact (with_records fun k _ => h k).trans (bigSep_fupd _ _)

theorem body_out (N : Names) (c : Dev nD) :
    iprop(recs m N ∗ bodyOut m c ∗ all4 fun k => xRest c k (argX m c))
      ⊢ |={Set.univ}=> iprop(left m c ∗ Ow c [] ∗ gW c (argG m c) ∗ oW c (outAt m c)) := by
  have hcl := closed m N c
  have hS : (fam (fun i j => ptS c j i (sendAt m c)) : sProp 𝕄) ⊢ iprop(∃ f, wS c f) := by
    rw [← wS_eq]; iintro H; iexists (sendAt m c); iexact H
  have hR : (fam (fun i j => ptR c j i (recvAt m c)) : sProp 𝕄) ⊢ iprop(∃ f, wR c f) := by
    rw [← wR_eq]; iintro H; iexists (recvAt m c); iexact H
  have hA : (all8 (gAll m c) : sProp 𝕄) ⊢ iprop(∃ f, wA c f) := by
    show (all8 fun i => all4 fun q => ptA c q i fullShare (gathAt m c)) ⊢ _
    rw [← wA_eq]; iintro H; iexists (gathAt m c); iexact H
  have hP : all8 (fun i => iprop(all3 (Z2 m c i) ∗ pE m c i))
      = iprop((fam (fun i j => at1 c (pcK 0 i j)) ∗ fam (fun i j => at1 c (pcK 1 i j)) ∗ fam (fun i j => ptS c j i (sendAt m c))
          ∗ fam fun i j => ptR c j i (recvAt m c))
        ∗ (fam (fun i j => at1 c (pcK 2 i j)) ∗ fam (fun i j => at1 c (pcK 3 i j))) ∗ all8 (gAll m c)) := by
    show all8 (fun i => iprop(all3 (fun j => iprop(at1 c (pcK 0 i j) ∗ at1 c (pcK 1 i j) ∗ ptS c j i (sendAt m c) ∗ ptR c j i (recvAt m c)))
      ∗ all3 (fun j => iprop(at1 c (pcK 2 i j) ∗ at1 c (pcK 3 i j))) ∗ gAll m c i)) = _
    simp only [all3_sep, all8_sep]
  unfold bodyOut left
  rw [hP, all4_sep, wX_eq]
  rw [by_cell] at hcl
  unfold all4 at hcl
  unfold all4
  iintro ⟨HR, ⟨HO, HG, HW, ⟨AC, HX⟩, AB, AF, ⟨A0, A1, PS, PR⟩, ⟨A2, A3⟩, PA⟩, HX'⟩
  imod hcl $$ [HR AC AB AF A0 A1 A2 A3] with Hv
  · iframe
  ihave PS := hS $$ PS
  ihave PR := hR $$ PR
  ihave PA := hA $$ PA
  imodintro
  iframe

end Cert.KernelIdeal.Rms

end
-- ==== Proof.Ideal.Run.lean ====
/- The run of the whole program on the sixteen devices: each device's body meets the launch, and every execution ends with
   the arguments unchanged, each device's result computed, and every semaphore at zero. -/
module

public import proofs.«01_k».proof.Proof.Ideal.Start
public import Idealize.ShloMosaic.Lib.Pipeline.CollectiveSegs
public import Idealize.ShloMosaic.Lib.Pipeline.Value

@[expose] public section

set_option backward.proofsInPublic true

noncomputable section

namespace Cert.KernelIdeal.Rms

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation cellsWaits)

variable (m : (ℓ : Loc nD τ sig) → Buf (Elt F) ℓ) (ρ : Dev nD → PrngReg)

/-! ## The data of the launch -/

/-- What a device starts from, but for its scratch buffers. -/
def start (c : Dev nD) : sProp 𝕄 :=
  iprop(∃ N, recs m N ∗ payToks c ∗ ats c ∗ (cr c barK ∗ cr c finK ∗ crs c 1 ∗ crs c 3) ∗ wX c (argX m c))
def Φ₀ (c : Dev nD) : sProp 𝕄 := iprop(∃ N, recs m N ∗ held m c)

def dats (_ : Fin 1) (c : Dev nD) : Dat τ (Elt F) Unit ℕ UU ℕ cfg0 c where
  A w := m ((cfg0.win w).arr.view.loc (c : Thread nD τ))
  after w _ := match w with
    | ⟨0, _⟩ => argG m c
    | ⟨1, _⟩ => outAt m c
  Φ t := match t with
    | ⟨0, _⟩ => Φ₀ m c
    | ⟨_ + 1, _⟩ => left m c
  q _ := fullShare
  owed t := match t with
    | ⟨0, _⟩ => owe (owedA c)
    | ⟨_ + 1, _⟩ => 0

theorem fetch_g (t : Fin cfg0.N) : (cfg0.win (0 : Fin 2)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(left m c ∗ (dats m 0 c).owesAt () t0_0.succ ∗ stg c cc0_stg0_0 (argG m c) ∗ stg c cc0_stg1_0 (outAt m c))

theorem sound_body (c : Dev nD) : bodyPre m c ⊢ WP c (prog c) fun _ => bodyPost m c := by
  have hin := body_in m c
  unfold bodyPre Φ₀ Dat.owesAt Pipeline.owesWithin
  rw [show (dats m 0 c).owed t0_0.castSucc = owe (owedA c) from rfl]
  iintro ⟨⟨%N, #HR, Hh⟩, ⟨%W, -, HO⟩, ⟨%d, %g0, %hg, Hg⟩, ⟨%d', %g1, -, Hw⟩⟩
  have hg' : g0 = argG m c := by rw [hg, Dat.before_fetched _ _ _ (fetch_g t0_0)]; rfl
  subst hg'
  ihave H := hin $$ [Hh HO Hg Hw]
  · isplitl [Hh]; · iexact Hh
    isplitl [HO]; · unfold Ow; iexists W; iexact HO
    isplitl [Hg]; · unfold gW; iexact Hg
    iexists g1; unfold oW; iexact Hw
  icases H with ⟨HB, HX⟩
  iapply (body_wp m N c) $$ [HB]
  · isplitr; · iexact HR
    iexact HB
  iintro Ho
  have hout := body_out m N c
  imod hout $$ [Ho HX] with ⟨Hl, HO, Hg, Hw⟩
  · isplitr; · iexact HR
    isplitl [Ho]; · iexact Ho
    iexact HX
  imodintro
  unfold bodyPost Dat.owesAt Pipeline.owesWithin Ow gW oW
  rw [show (dats m 0 c).owed t0_0.succ = 0 from rfl]
  icases HO with ⟨%W', HO⟩
  isplitl [Hl]; · iexact Hl
  isplitl [HO]
  · iexists W'
    isplitr; · ipureintro; exact fun _ _ => Or.inl trivial
    iexact HO
  isplitl [Hg]
  · iexists _; isplitr; · (ipureintro; rfl)
    iexact Hg
  iexists _; isplitr; · (ipureintro; rfl)
  iexact Hw

set_option maxRecDepth 65536 in
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ (c : Thread nD τ) none) Set.univ (bodyAt0 t0_0) (fun _ => bodyPost m c)
  rw [body_eq, wp_deviceId]
  exact sound_body m c

/-! ## The launch's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owe (owedA d)) c ∗ prngReg c (ρ c) ∗ G' m c)
      ⊢ |={Set.univ}=> iprop(start m c ∗ emp) := by
  have hc := creds (F := F) c
  have hr (N : Names) := recs_of m N
  rw [Pipeline.unscopedRestP_none, unscopedRest0_eq]
  unfold G' start
  iintro ⟨HX, Hlev, Hcr, -, ⟨%N, HR, Ha, Ht⟩⟩
  ihave Hc := hc $$ Hcr
  ihave HR := (hr N) $$ [HR Hlev]
  · iframe
  imodintro
  isplitl
  · iexists N
    isplitl [HR]; · iexact HR
    isplitl [Ht]; · iexact Ht
    isplitl [Ha]; · iexact Ha
    isplitl [Hc]; · iexact Hc
    iexact HX
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start held
  iintro ⟨⟨%N, HR, Ht, Ha, Hc, HX⟩, -, Hs⟩
  iexists N
  isplitl [HR]; · iexact HR
  isplitl [Ht]; · iexact Ht
  isplitl [Ha]; · iexact Ha
  isplitl [Hc]; · iexact Hc
  isplitl [Hs]; · iexact Hs
  iexact HX

/-- What is read off at the end: the barrier's semaphore and the argument. -/
def ends (c : Dev nD) : sProp 𝕄 := iprop(unscopedSems0 c ∗ wX c (argX m c))

theorem phi1_exit (c : Dev nD) :
    (dats m 0 c).Φ (Fin.last cfg0.N) ⊢ iprop(ends m c ∗ Pipeline.ownSems0 osem c ∗ Pipeline.scopedRest cfg0.spec c) := by
  rw [show (dats m 0 c).Φ (Fin.last cfg0.N) = left m c from rfl, scopedRest0_eq]
  unfold left ends
  rw [sems0_eq, unscopedSems0_eq]
  iintro ⟨⟨Hb, Ho⟩, Hs, HX⟩
  isplitl [Hb HX]
  · isplitl [Hb]; · iexact Hb
    iexact HX
  isplitl [Ho]; · iexact Ho
  iexact Hs

theorem lv_stage : ∀ (w : Fin cfg0.W) (s : Fin _), cellOfSem (.dma ((cfg0.spec w).sem s)) = none := by decide +kernel

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · refine mayWait_owe c _ 0 (le_of_eq ?_) (owedA c) rfl
      show (match cellOfSem (.dma ((cfg0.spec w).sem s)) with | some k => lvK k | none => 0) = 0
      rw [lv_stage]
    · show _ ⊢ MayWait (c : Thread nD τ) _ () 0
      rw [MayWait_zero]; iintro -; iempintro

/-! ## The run -/

/-- What a device's arrays hold at the end. -/
def QY (c : Dev nD) (s : MemSt nD τ sig (Elt F)) : Prop :=
  s.mem ((c : Thread nD τ).loc main_arg0) = m ((c : Thread nD τ).loc main_arg0)
    ∧ ∀ sm : SemLoc sig, sm.isScoped .tc = false → s.sem ((c.tc : Thread nD τ), sm) = 0

theorem read_ends (c : Dev nD) (s' : Phys nD τ sig (Elt F)) :
    iprop(ends m c ∗ emp ∗ SI s') ⊢ |={Set.univ}=> (iprop(⌜QY m c s'.mem⌝ ∗ SI s') : sProp 𝕄) := by
  have hX : iprop(wX c (argX m c) ∗ SI s') ⊢ (iprop(⌜s'.mem.mem ((c : Thread nD τ).loc main_arg0) = m ((c : Thread nD τ).loc main_arg0)⌝ ∗ SI s') : sProp 𝕄) := by
    have h := Idealize.ShloMosaic.pointsTo_read_all (Ix := Unit) (Name := ℕ) (U := UU) (Lvl := ℕ) (Val := Elt F) ({()} : Finset Unit)
      (fun _ => (c : Thread nD τ).loc main_arg0) (fun _ => argX m c) s'
    rw [bigSep_singleton] at h
    iintro H
    ihave H' := h $$ H
    icases H' with ⟨%hx, H⟩
    isplitr
    · ipureintro; exact hx () (Finset.mem_singleton_self _)
    iexact H
  have hS : iprop(unscopedSems0 c ∗ SI s') ⊢ |={Set.univ}=> (iprop(⌜∀ sm : SemLoc sig, sm.isScoped .tc = false → s'.mem.sem ((c.tc : Thread nD τ), sm) = 0⌝ ∗ SI s') : sProp 𝕄) :=
    Pipeline.unscopedSems0_read (X := unscopedSems0 c) (c := c) fupd_intro s'
  unfold ends
  iintro ⟨⟨Hu, HX⟩, -, HSI⟩
  ihave H := hX $$ [HX HSI]
  · iframe
  icases H with ⟨%hx, HSI⟩
  imod hS $$ [Hu HSI] with ⟨%hs, HSI⟩
  · iframe
  imodintro
  isplitr
  · ipureintro; exact ⟨hx, hs⟩
  iexact HSI

def finalA (c : Dev nD) (w : Fin cfg0.W) : Buf (Elt F) ((cfg0.win w).arr.view.loc (c : Thread nD τ)) := (dats m 0 c).arrAt w cfg0.N

theorem finalA_g (c : Dev nD) : finalA m c (0 : Fin 2) = m ((c : Thread nD τ).loc main_arg1) :=
  (dats (F := F) m 0 c).arrAt_in (0 : Fin 2) rfl _

theorem blk_emb (x : S2048x2048.Idx) : ((cfg0.win (1 : Fin 2)).blk t0_0).view.emb x = x := by
  show ((win0_1.blk t0_0).view.emb x : S2048x2048.Idx) = x
  refine ix2_ext ?_ ?_
  · show 0 * 2048 + 1 * (x 0).val = (x 0).val; omega
  · show 0 * 2048 + 1 * (x 1).val = (x 1).val; omega

theorem finalA_out (c : Dev nD) : finalA m c (1 : Fin 2) = outAt m c := by
  refine (dats (F := F) m 0 c).arrAt_eq_of_cover 1 (outAt m c) (fun t _ => ?_) fun i => ?_
  · obtain rfl := fin_N0 t
    have ha : (dats m 0 c).after 1 t0_0 = outAt m c := by dsimp only [dats]
    unfold Pipeline.Dat.flushed
    rw [ha]
    funext x
    exact congrArg (outAt m c) (blk_emb x).symm
  · refine ⟨t0_0, flush0_1 _, ?_⟩
    have h := blk_emb i
    exact Finset.mem_map.mpr ⟨i, Finset.mem_univ _, h⟩

/-- The program's post: every device's arguments unchanged, its result computed, every counter zero. -/
def QC (r : PUnit × MemSt nD τ sig (Elt F)) : Prop :=
  (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = outAt m c)
    ∧ r.2.sem = fun _ => 0

set_option maxRecDepth 65536 in
/-- For any float values, from any memory with all counters zero: every weakly fair execution of the program on the
    sixteen devices ends, and in every final state each device's arguments are unchanged, its result is `outAt`, and every
    semaphore is at zero. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => owe (owedA d)) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_rounds m) $$ HX with HG
      imodintro
      isplitl [HP] <;> iassumption)
    (hglob := glob m)
    (hA := fun _ _ => rfl) (hpf := fun _ k => k.elim0)
    (X := start m) (Y := ends m) (Z := fun _ => iprop(emp))
    (hX := start_intro m ρ) (hin := phi0_intro m) (hout := phi1_exit m)
    (QY := QY m) (hY := read_ends m)
    (hQ := fun _ h hs => ⟨fun c => ⟨(h c).2.2.1, ((h c).1 0).trans (finalA_g m c), ((h c).1 1).trans (finalA_out m c)⟩,
      sem_eq_zero hs fun c => (h c).2.2.2⟩)

end Cert.KernelIdeal.Rms

end
-- ==== Proof.Ideal.Value.lean ====
/- The values stored, read at an index over the extended reals, where a change of format is the identity. -/
module

public import proofs.«01_k».proof.Proof.Ideal.Run
public import Idealize.ShloMosaic.Lib.Pointwise
public import Idealize.ShloMosaic.PureOps.Ideal

@[expose] public section

set_option backward.proofsInPublic true

noncomputable section

namespace Cert.KernelIdeal.Val

open Cert.KernelIdeal Cert.KernelIdeal.Gen Cert.KernelIdeal.Rms
open Idealize.ShloMosaic Idealize.ShloMosaic.TcCoe

/-- An index of one slab of scratch. -/
abbrev at3 (r : Fin 64) (k : Fin 2048) : S1x64x2048.Idx := ix3 (0 : Fin 1) r k
/-- An index of 64 rows. -/
abbrev at2 (r : Fin 64) (k : Fin 2048) : S64x2048.Idx := ix2 r k

/-- One normalised entry: the row's entry over the root of the row's mean square plus a constant, times the scale. -/
def nrm (y : Fin 2048 → EReal) (g : EReal) (k : Fin 2048) : EReal :=
  Ideal.div (y k) (Ideal.sqrt (Ideal.div (∑ j, y j * y j) (Ideal.ofBits .f32 0x45000000#32) + Ideal.ofBits .f32 0x358637BD#32)) * g

theorem truncP_at (v : Vec Ideal S64x2048 .f32) (r : Fin 64) (k : Fin 2048) : truncP v (at3 r k) = v (at2 r k) := by
  pointwise [truncP]
theorem sumP_at (v : Vec Ideal S64x2048 .f32) (a b d : Vec Ideal S1x64x2048 .bf16) (r : Fin 64) (k : Fin 2048) :
    sumP v a b d (at3 r k) = v (at2 r k) + a (at3 r k) + b (at3 r k) + d (at3 r k) := by
  pointwise [sumP, wide]
theorem normP_at (g : Vec Ideal S2048 .f32) (v : Vec Ideal S1x64x2048 .bf16) (r : Fin 64) (k : Fin 2048) :
    normP (scaleRow g) v (at2 r k) = nrm (fun j => v (at3 r j)) (g (ix1 k)) k := by
  pointwise [normP, wide, scaleRow, nrm]

/-! ## The argument's rows -/

variable (m : (ℓ : Loc nD τ sig) → Buf (Elt Ideal) ℓ)

/-- An index of a device's argument. -/
abbrev xAt (r : Fin 8192) (k : Fin 2048) : S1x8192x2048.Idx := ix3 (0 : Fin 1) r k

/-- Row `r` of piece `i` of quarter `k` of device `c` is this row of its argument. -/
def rowOf (c : Dev nD) (k : Fin 4) (i : Fin 8) (r : Fin 64) : Fin 8192 :=
  ⟨2048 * (hgt c k).val + 512 * (col c).val + 64 * i.val + r.val, by
    have := (hgt c k).isLt; have := (col c).isLt; have := i.isLt; have := r.isLt; omega⟩

/-- The rows of the argument that a copy takes. -/
theorem rowQ_at (c : Dev nD) (k : Fin 4) (a : Fin 512) (j : Fin 2048) :
    rowQ m c k (ix2 a j)
      = argX m c (xAt ⟨2048 * (hgt c k).val + 512 * (col c).val + a.val, by
          have := (hgt c k).isLt; have := (col c).isLt; have := a.isLt; omega⟩ j) := by
  have h0 : (xP (xof c k)).view.read (Elt Ideal) (argX m c)
      = shapeCast S512x2048 (fun x => argX m c ((Rect.unit (s := S1x8192x2048) (xof c k).o S1x512x2048.size (xof c k).inb).emb x))
          (show S1x512x2048.ShapeCasts S512x2048 by decide) := rfl
  unfold rowQ
  rw [h0]
  generalize argX m c = v
  refine (shapeCast_dropUnit_apply (![512, 2048] : Fin 2 → Nat) _ _ _).trans ?_
  refine congrArg v (funext fun b => Fin.ext ?_)
  have e := xof_eq c k
  fin_cases b
  · show (xof c k).o 0 + 1 * 0 = 0
    rw [e]; rfl
  · show (xof c k).o 1 + 1 * a.val = _
    rw [e]; show 2048 * (hgt c k).val + 512 * (col c).val + 1 * a.val = 2048 * (hgt c k).val + 512 * (col c).val + a.val; omega
  · show (xof c k).o 2 + 1 * j.val = j.val
    rw [e]; show 0 + 1 * j.val = j.val; omega

theorem rowP_at (c : Dev nD) (k : Fin 4) (i : Fin 8) (r : Fin 64) (j : Fin 2048) :
    rowP m c k i (at2 r j) = argX m c (xAt (rowOf c k i r) j) := by
  have hlt : 64 * i.val + r.val < 512 := by have := i.isLt; have := r.isLt; omega
  have he : (rO k i).emb (at2 r j) = (rQ k).emb (ix2 (⟨64 * i.val + r.val, hlt⟩ : Fin 512) j) := by
    refine ix2_ext ?_ ?_
    · show 512 * k.val + 64 * i.val + 1 * r.val = 512 * k.val + 1 * (64 * i.val + r.val); omega
    · rfl
  unfold rowP rowsAt
  rw [he, asmQ_emb, rowQ_at]
  refine congrArg (fun a => argX m c (xAt a j)) (Fin.ext ?_)
  show 2048 * (hgt c k).val + 512 * (col c).val + (64 * i.val + r.val) = 2048 * (hgt c k).val + 512 * (col c).val + 64 * i.val + r.val
  omega

theorem recvP_at (c : Dev nD) (j : Fin 3) (i : Fin 8) (r : Fin 64) (k : Fin 2048) :
    recvP m c j i (at3 r k) = argX m (dn j c) (xAt (rowOf c 3 i r) k) := by
  unfold recvP sendP
  rw [truncP_at, rowP_at]
  refine congrArg (fun a => argX m (dn j c) (xAt a k)) (Fin.ext ?_)
  show 2048 * (((dn j c).val + j.val + 1) % 4) + 512 * ((dn j c).val / 4) + 64 * i.val + r.val
    = 2048 * ((c.val + 3 + 1) % 4) + 512 * (c.val / 4) + 64 * i.val + r.val
  have hd : (dn j c).val = c.val / 4 * 4 + (c.val + 3 - j.val) % 4 := rfl
  have := j.isLt
  omega

/-! ## The sum over the column -/

section Sum

variable (X : (⟨3, ![4, 8192, 2048]⟩ : Shape).Idx → EReal)
/-- Every device's argument is its height's slab of `X`. -/
def Holds : Prop := ∀ (c : Dev nD) (z : Fin 4), z.val = c.val % 4 → ∀ (r : Fin 8192) (k : Fin 2048),
  argX m c (xAt r k) = X (ix3 z r k)

/-- Row `r` of the sum of the four slabs. -/
def colSum (r : Fin 8192) (k : Fin 2048) : EReal := ∑ z : Fin 4, X (ix3 z r k)

/-- Four terms taken from any height upside down round the column are the four terms. -/
theorem sum_round (f : Fin 4 → EReal) (z a b d : Fin 4) (ha : a.val = (z.val + 3) % 4) (hb : b.val = (z.val + 2) % 4)
    (hd : d.val = (z.val + 1) % 4) : f z + f a + f b + f d = ∑ z, f z := by
  rw [Fin.sum_univ_four]
  obtain rfl : a = ⟨(z.val + 3) % 4, Nat.mod_lt _ (by decide)⟩ := Fin.ext ha
  obtain rfl : b = ⟨(z.val + 2) % 4, Nat.mod_lt _ (by decide)⟩ := Fin.ext hb
  obtain rfl : d = ⟨(z.val + 1) % 4, Nat.mod_lt _ (by decide)⟩ := Fin.ext hd
  fin_cases z <;> simp only [] <;> (dsimp; abel)

theorem sumOf_at (h : Holds m X) (c : Dev nD) (i : Fin 8) (r : Fin 64) (k : Fin 2048) :
    sumOf m c i (at3 r k) = colSum X (rowOf c 3 i r) k := by
  unfold sumOf colSum
  rw [sumP_at, rowP_at, recvP_at, recvP_at, recvP_at]
  have hm (n : Nat) : n % 4 < 4 := Nat.mod_lt _ (by decide)
  have hd (j : Fin 3) : (dn j c).val % 4 = (c.val + 3 - j.val) % 4 := by
    show (c.val / 4 * 4 + (c.val + 3 - j.val) % 4) % 4 = _; omega
  rw [h c ⟨c.val % 4, hm _⟩ rfl, h (dn 0 c) ⟨(c.val + 3) % 4, hm _⟩ (hd 0).symm, h (dn 1 c) ⟨(c.val + 2) % 4, hm _⟩ (hd 1).symm,
    h (dn 2 c) ⟨(c.val + 1) % 4, hm _⟩ (hd 2).symm]
  refine sum_round (fun z => X (ix3 z (rowOf c 3 i r) k)) _ _ _ _ ?_ ?_ ?_ <;>
    (dsimp only; omega)

/-- The scale as the body reads it. -/
theorem argG_at (c : Dev nD) (k : Fin 2048) :
    argG m c (ix1 k) = m ((c : Thread nD τ).loc main_arg1) (ix1 k) := by
  unfold argG
  refine congrArg (m ((c : Thread nD τ).loc main_arg1)) (funext fun b => Fin.ext ?_)
  fin_cases b
  show 0 * 2048 + 1 * k.val = k.val
  omega

/-- Row `r` of device `c`'s result is the normalised row of the sum, `2048 * z` rows further along. -/
theorem outAt_at (h : Holds m X) (c : Dev nD) (r : Fin 2048) (k : Fin 2048) (R : Fin 8192) (hR : R.val = c.val % 4 * 2048 + r.val) :
    outAt m c (ix2 r k)
      = nrm (colSum X R) (m ((c : Thread nD τ).loc main_arg1) (ix1 k)) k := by
  have hr := r.isLt
  let q : Fin 4 := ⟨r.val / 512, by omega⟩
  let i : Fin 8 := ⟨r.val % 512 / 64, by omega⟩
  let a : Fin 64 := ⟨r.val % 64, by omega⟩
  have he : (ix2 r k : S2048x2048.Idx) = (rO q i).emb (at2 a k) := by
    refine ix2_ext ?_ ?_
    · show r.val = 512 * (r.val / 512) + 64 * (r.val % 512 / 64) + 1 * (r.val % 64); omega
    · show k.val = 0 + 1 * k.val; omega
  unfold outAt
  rw [he, asmO_emb]
  unfold outP
  rw [normP_at, argG_at]
  have hrow : (fun j => gathP m c q i (at3 a j)) = colSum X R := by
    funext j
    unfold gathP
    rw [sumOf_at m X h]
    refine congrArg (fun b => colSum X b j) (Fin.ext ?_)
    rw [hR]
    show 2048 * ((r.val / 512 * 4 + c.val % 4 + 3 + 1) % 4) + 512 * ((r.val / 512 * 4 + c.val % 4) / 4)
      + 64 * (r.val % 512 / 64) + r.val % 64 = c.val % 4 * 2048 + r.val
    have e1 : (r.val / 512 * 4 + c.val % 4 + 3 + 1) % 4 = c.val % 4 := by omega
    have e2 : (r.val / 512 * 4 + c.val % 4) / 4 = r.val / 512 := by omega
    have e3 : 512 * (r.val / 512) + 64 * (r.val % 512 / 64) + r.val % 64 = r.val := by omega
    rw [e1, e2]
    omega
  rw [hrow]

end Sum

end Cert.KernelIdeal.Val

end
-- ==== Proof.Ideal.Reference.lean ====
/- The reference's result read at an index over the extended reals, and each device's result as its block of it. -/
module

public import proofs.«01_k».proof.Proof.Ideal.Value
public import proofs.«01_k».proof.Proof.Gen.ReferenceIdeal.Run
public import Idealize.ShloMosaic.Lib.Layout

@[expose] public section

set_option backward.proofsInPublic true

noncomputable section

namespace Cert.KernelIdeal.Val

open Idealize.ShloMosaic Idealize.ShloMosaic.TcCoe

section Ref
open Cert.ReferenceIdeal Cert.ReferenceIdeal.Gen

/-- The sum of the four slabs, as the reference takes it. -/
def refSum (X : FVec Ideal S4x8192x2048 .f32) : FVec Ideal S8192x2048 .f32 :=
  Host.reduceAdd X (constant S_ .f32 0x00000000#32) reducesTo_S4x8192x2048_S8192x2048_d0 h_S_

/-- The reference's result of its two arguments. -/
def refOut (X : FVec Ideal S4x8192x2048 .f32) (G : FVec Ideal S2048 .f32) : FVec Ideal S8192x2048 .f32 :=
  mulf (Host.divf (refSum X) (broadcastInDim S8192x2048 ![0, 1] bcast_S8192x1_S8192x2048_0_1
      (Host.sqrt (addf (Host.divf (broadcastInDim S8192x1 ![0] bcast_S8192_S8192x1_0
          (Host.reduceAdd (mulf (refSum X) (refSum X)) (constant S_ .f32 0x00000000#32) reducesTo_S8192x2048_S8192_d1 h_S_))
          (broadcastInDim S8192x1 ![] bcast_S_S8192x1 (constant S_ .f32 0x45000000#32)))
        (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 G))

theorem refSum_at (X : FVec Ideal S4x8192x2048 .f32) (r : Fin 8192) (k : Fin 2048) :
    refSum X (ix2 r k) = colSum X r k := by
  pointwise [refSum, colSum]

/-- An entry of the reference's result is the normalised entry of the sum of the four slabs. -/
theorem refOut_at (X : FVec Ideal S4x8192x2048 .f32) (G : FVec Ideal S2048 .f32) (r : Fin 8192) (k : Fin 2048) :
    refOut X G (ix2 r k) = nrm (colSum X r) (G (ix1 k)) k := by
  have h (j : Fin 2048) : refSum X (ix2 r j) = colSum X r j := refSum_at X r j
  unfold refOut nrm
  generalize refSum X = Y at h ⊢
  pointwise [h]

end Ref

/-- Along the mesh's axis z device `c` has block `c % 4`. -/
theorem blockOf (c : Fin 16) : Layout.meshLin [2, 2, 4] c.val [2] = c.val % 4 := by
  revert c; decide

section Blocks
open Cert.KernelIdeal Cert.KernelIdeal.Gen Cert.KernelIdeal.Rms

variable (m : (ℓ : Loc nD τ sig) → Buf (Elt Ideal) ℓ)
variable (X : (⟨3, ![4, 8192, 2048]⟩ : Shape).Idx → EReal) (G : (⟨1, ![2048]⟩ : Shape).Idx → EReal)

/-- Devices whose arguments are their blocks of `X` along z hold their heights' slabs. -/
theorem holds_of_blocks
    (h : ∀ c : Dev nD, argX m c
      = Layout.blockN ⟨3, ![1, 8192, 2048]⟩ ⟨3, ![4, 8192, 2048]⟩ (Layout.meshBlock [2, 2, 4] ![[2], [], []] c) X) :
    Holds m X := fun c z hz r k => by
  rw [h c]
  refine congrArg X (funext fun b => Fin.ext ?_)
  fin_cases b
  · show Layout.meshLin [2, 2, 4] c.val [2] * 1 + 0 = z.val
    rw [blockOf c, hz]; omega
  · show 0 * 8192 + r.val = r.val; omega
  · show 0 * 2048 + k.val = k.val; omega

/-- Then each device's result is its block along z of the reference's result. -/
theorem outAt_block
    (h : ∀ c : Dev nD, argX m c
      = Layout.blockN ⟨3, ![1, 8192, 2048]⟩ ⟨3, ![4, 8192, 2048]⟩ (Layout.meshBlock [2, 2, 4] ![[2], [], []] c) X)
    (hG : ∀ c : Dev nD, m ((c : Thread nD τ).loc main_arg1) = G) (c : Dev nD) :
    outAt m c = Layout.blockN ⟨2, ![2048, 2048]⟩ ⟨2, ![8192, 2048]⟩ (Layout.meshBlock [2, 2, 4] ![[2], []] c) (refOut X G) := by
  have key (r k : Fin 2048) : outAt m c (ix2 r k)
      = (Layout.blockN ⟨2, ![2048, 2048]⟩ ⟨2, ![8192, 2048]⟩ (Layout.meshBlock [2, 2, 4] ![[2], []] c) (refOut X G))
          (ix2 r k) := by
    have hr := r.isLt
    have hlt : c.val % 4 * 2048 + r.val < 8192 := by omega
    refine (outAt_at m X (holds_of_blocks m X h) c r k ⟨c.val % 4 * 2048 + r.val, hlt⟩ rfl).trans ?_
    rw [hG c]
    refine (refOut_at X G _ k).symm.trans (congrArg (refOut X G) ?_)
    refine ix2_ext ?_ ?_
    · show c.val % 4 * 2048 + r.val = Layout.meshLin [2, 2, 4] c.val [2] * 2048 + r.val
      rw [blockOf c]
    · show k.val = 0 * 2048 + k.val; omega
  funext x
  have hx : x = (ix2 (x 0 : Fin 2048) (x 1 : Fin 2048) : S2048x2048.Idx) := ix2_ext rfl rfl
  exact hx ▸ key (x 0) (x 1)

end Blocks

end Cert.KernelIdeal.Val

end
-- ==== Proof.lean ====
/- The certificate: the kernel and its reading over the extended reals run and leave every semaphore at zero, so does the
   reference, and each device's result is its block of the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Float.Run
public import proofs.«01_k».proof.Proof.Ideal.Reference
public import Idealize.ShloMosaic.Adequacy
public import Idealize.ShloMosaic.Init

@[expose] public section

noncomputable section

namespace Cert.Proof

open Idealize.ShloMosaic Idealize.SL.Sem

/-- The kernel over float words runs, its arguments unchanged, every semaphore at zero. -/
theorem frame_kernel : Cert.quiescent_Kernel := fun m g _ =>
  (θ_run Cert.Kernel.defs _ _).mono (fun _ h => ⟨fun c => ⟨(h.1 c).1, (h.1 c).2.1⟩, h.2⟩) (Cert.Kernel.Rms.run_main m g)

/-- So does the kernel over the extended reals. -/
theorem frame_ideal : Cert.quiescent_KernelIdeal := fun m g _ =>
  (θ_run Cert.KernelIdeal.defs _ _).mono (fun _ h => ⟨fun c => ⟨(h.1 c).1, (h.1 c).2.1⟩, h.2⟩) (Cert.KernelIdeal.Rms.run_main m g)

/-- So does the reference, which declares no semaphore. -/
theorem frame_reference : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- Each device's result is its block of the reference's result of the whole arrays. -/
theorem value : Cert.algebraic_KernelIdeal_ReferenceIdeal := fun m g m' g' _ h => by
  refine ⟨_, (θ_run Cert.KernelIdeal.defs _ _).mono (fun _ hr c => ⟨(hr.1 c).2.2.trans ?_, (hr.1 c).1, (hr.1 c).2.1⟩)
    (Cert.KernelIdeal.Rms.run_main m g), (θ_run Cert.ReferenceIdeal.defs _ _).mono (fun _ hr => hr 0) (Cert.ReferenceIdeal.Value.run m' g')⟩
  exact Cert.KernelIdeal.Val.outAt_block m _ _ (fun c => (h c).1) (fun c => (h c).2) c

theorem claim : Cert.Claim := ⟨Cert.Kernel.Gen.facts, Cert.KernelIdeal.Gen.facts, Cert.ReferenceIdeal.Gen.facts,
  frame_kernel, frame_ideal, frame_reference, trivial, value⟩

end Cert.Proof

end
